-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_values [hPre_finite_values : Cert.Pre_finite_values.Facts] (m : (ℓ : Loc Cert.KernelIdeal.nD Cert.KernelIdeal.τ Cert.KernelIdeal.sig) → Buf (Elt Ideal) ℓ) : Prop :=
  ∀ c : Dev Cert.KernelIdeal.nD,
    (Cert.Pre_finite_values.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_values.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite_values.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_values [hPre_finite_values : Cert.Pre_finite_values.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_values.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_values.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite_values.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_values [hKernelIdeal : Cert.KernelIdeal.Facts] [hPre_finite_values : Cert.Pre_finite_values.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_values m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_values [hReferenceIdeal : Cert.ReferenceIdeal.Facts] [hPre_finite_values : Cert.Pre_finite_values.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_values m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "scale_log2e" .f32 0x3E0293EE#32 (((Real.sqrt 128)⁻¹ * (Real.log 2)⁻¹ : ℝ) : EReal)

def algebraic_KernelIdeal_ReferenceIdeal_pre_finite_values [hKernelIdeal : Cert.KernelIdeal.Facts] [hReferenceIdeal : Cert.ReferenceIdeal.Facts] [hPre_finite_values : Cert.Pre_finite_values.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_values m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v5_0)) (v1 : (c : Dev Cert.Kernel2Ideal.nD) → Buf (Elt Ideal) ((c.tc : Thread Cert.Kernel2Ideal.nD Cert.Kernel2Ideal.τ).loc Cert.Kernel2Ideal.main_v5_1)) (v2 : (c : Dev Cert.Kernel2Ideal.nD) → Buf (Elt Ideal) ((c.tc : Thread Cert.Kernel2Ideal.nD Cert.Kernel2Ideal.τ).loc Cert.Kernel2Ideal.main_v5_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5_0) = v0 c
          ∧ r.2.mem ((c.tc : Thread Cert.Kernel2Ideal.nD Cert.Kernel2Ideal.τ).loc Cert.Kernel2Ideal.main_v5_1) = v1 c
          ∧ r.2.mem ((c.tc : Thread Cert.Kernel2Ideal.nD Cert.Kernel2Ideal.τ).loc Cert.Kernel2Ideal.main_v5_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v22) = v0 c
          ∧ r.2.mem ((c.tc : Thread Cert.Reference2Ideal.nD Cert.Reference2Ideal.τ).loc Cert.Reference2Ideal.main_v23) = v1 c
          ∧ r.2.mem ((c.tc : Thread Cert.Reference2Ideal.nD Cert.Reference2Ideal.τ).loc Cert.Reference2Ideal.main_v24) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v22)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v22) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v37) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v13) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v12) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v11) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)) →
    ∃ (v0 : (c : Dev Cert.Kernel8Ideal.nD) → Buf (Elt Ideal) ((c.tc : Thread Cert.Kernel8Ideal.nD Cert.Kernel8Ideal.τ).loc Cert.Kernel8Ideal.main_v38)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v38) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v41) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite_values : Cert.Pre_finite_values.Facts),
    quiescent_Kernel (hKernel := hKernel)
    ∧ quiescent_KernelIdeal (hKernelIdeal := hKernelIdeal)
    ∧ quiescent_KernelIdeal_pre_finite_values (hKernelIdeal := hKernelIdeal) (hPre_finite_values := hPre_finite_values)
    ∧ quiescent_ReferenceIdeal (hReferenceIdeal := hReferenceIdeal)
    ∧ quiescent_ReferenceIdeal_pre_finite_values (hReferenceIdeal := hReferenceIdeal) (hPre_finite_values := hPre_finite_values)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_finite_values (hKernelIdeal := hKernelIdeal) (hReferenceIdeal := hReferenceIdeal) (hPre_finite_values := hPre_finite_values)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_finite_values.lean ====
abbrev S4x4096x8192 : Shape := ⟨3, ![4, 4096, 8192]⟩
abbrev S32x16 : Shape := ⟨2, ![32, 16]⟩
abbrev S2x4x128 : Shape := ⟨3, ![2, 4, 128]⟩
abbrev S2x256 : Shape := ⟨2, ![2, 256]⟩
abbrev S4x4096x3072 : Shape := ⟨3, ![4, 4096, 3072]⟩
abbrev S_ : Shape := ⟨0, ![]⟩
abbrev S32x4 : Shape := ⟨2, ![32, 4]⟩
abbrev S1x4x128 : Shape := ⟨3, ![1, 4, 128]⟩
abbrev S4x128 : Shape := ⟨2, ![4, 128]⟩

class Facts : Prop where
  slices_S4x4096x8192_S4x4096x3072_0_0_5120 : S4x4096x8192.Slices ![0, 0, 5120] S4x4096x3072
  bcast_S_S4x4096x3072 : S_.BroadcastsInDim S4x4096x3072 (![] : Fin 0 → Fin S4x4096x3072.rank)
  slices_S32x16_S32x4_0_12 : S32x16.Slices ![0, 12] S32x4
  bcast_S_S32x4 : S_.BroadcastsInDim S32x4 (![] : Fin 0 → Fin S32x4.rank)
  slices_S2x4x128_S1x4x128_0_0_0 : S2x4x128.Slices ![0, 0, 0] S1x4x128
  shapeCasts_S1x4x128_S4x128 : S1x4x128.ShapeCasts S4x128
  bcast_S_S4x128 : S_.BroadcastsInDim S4x128 (![] : Fin 0 → Fin S4x128.rank)

variable [Facts]

def fn {F : FTy → Type} [FloatOps F] (main_arg0 : FVec F S4x4096x8192 .f32) (main_arg1 : FVec F S32x16 .f32) (main_arg2 : FVec F S2x4x128 .f32) (main_arg3 : FVec F S2x256 .f32) : IVec S4x4096x3072 1 × IVec S32x4 1 × IVec S4x128 1 :=
  let main_v0 : FVec F S4x4096x3072 .f32 := (extractStridedSlice S4x4096x3072 ![0, 0, 5120] · slices_S4x4096x8192_S4x4096x3072_0_0_5120) main_arg0
  let main_v1 : FVec F S4x4096x3072 .f32 := Host.absf main_v0
  let main_cst : FVec F S_ .f32 := constant S_ .f32 0x7F800000#32
  let main_v2 : FVec F S4x4096x3072 .f32 := broadcastInDim S4x4096x3072 ![] bcast_S_S4x4096x3072 main_cst
  let main_v3 : IVec S4x4096x3072 1 := cmpf .olt main_v1 main_v2
  let main_v4 : FVec F S32x4 .f32 := (extractStridedSlice S32x4 ![0, 12] · slices_S32x16_S32x4_0_12) main_arg1
  let main_v5 : FVec F S32x4 .f32 := Host.absf main_v4
  let main_cst_0 : FVec F S_ .f32 := constant S_ .f32 0x7F800000#32
  let main_v6 : FVec F S32x4 .f32 := broadcastInDim S32x4 ![] bcast_S_S32x4 main_cst_0
  let main_v7 : IVec S32x4 1 := cmpf .olt main_v5 main_v6
  let main_v8 : FVec F S1x4x128 .f32 := (extractStridedSlice S1x4x128 ![0, 0, 0] · slices_S2x4x128_S1x4x128_0_0_0) main_arg2
  let main_v9 : FVec F S4x128 .f32 := shapeCast S4x128 main_v8 shapeCasts_S1x4x128_S4x128
  let main_v10 : FVec F S4x128 .f32 := Host.absf main_v9
  let main_cst_1 : FVec F S_ .f32 := constant S_ .f32 0x7F800000#32
  let main_v11 : FVec F S4x128 .f32 := broadcastInDim S4x128 ![] bcast_S_S4x128 main_cst_1
  let main_v12 : IVec S4x128 1 := cmpf .olt main_v10 main_v11
  (main_v3, main_v7, main_v12)
-- ==== Kernel.lean ====
abbrev S4x4096x8192 : Shape := ⟨3, ![4, 4096, 8192]⟩
abbrev S32x16 : Shape := ⟨2, ![32, 16]⟩
abbrev S2x4x128 : Shape := ⟨3, ![2, 4, 128]⟩
abbrev S2x256 : Shape := ⟨2, ![2, 256]⟩
abbrev S4x4096x64x128 : Shape := ⟨4, ![4, 4096, 64, 128]⟩
abbrev S4x64x4096x128 : Shape := ⟨4, ![4, 64, 4096, 128]⟩
abbrev S8064 : Shape := ⟨1, ![8064]⟩
abbrev S1x8064 : Shape := ⟨2, ![1, 8064]⟩
abbrev S128 : Shape := ⟨1, ![128]⟩
abbrev S128x1 : Shape := ⟨2, ![128, 1]⟩
abbrev S128x8064 : Shape := ⟨2, ![128, 8064]⟩
abbrev S_ : Shape := ⟨0, ![]⟩
abbrev S128x8064x1 : Shape := ⟨3, ![128, 8064, 1]⟩
abbrev S128x8064x16 : Shape := ⟨3, ![128, 8064, 16]⟩
abbrev S16x128x8064 : Shape := ⟨3, ![16, 128, 8064]⟩
abbrev S4x128x8064 : Shape := ⟨3, ![4, 128, 8064]⟩
abbrev S1x4x128 : Shape := ⟨3, ![1, 4, 128]⟩
abbrev S4x128 : Shape := ⟨2, ![4, 128]⟩
abbrev S1x256 : Shape := ⟨2, ![1, 256]⟩
abbrev S256 : Shape := ⟨1, ![256]⟩
abbrev S4x4096x1024 : Shape := ⟨3, ![4, 4096, 1024]⟩
abbrev S1x2x256x128 : Shape := ⟨4, ![1, 2, 256, 128]⟩
abbrev S1x2x4096x128 : Shape := ⟨4, ![1, 2, 4096, 128]⟩
abbrev S1x128x8064 : Shape := ⟨3, ![1, 128, 8064]⟩
abbrev S1x256x256 : Shape := ⟨3, ![1, 256, 256]⟩
abbrev S4096x256 : Shape := ⟨2, ![4096, 256]⟩
abbrev S1x1x4096x128 : Shape := ⟨4, ![1, 1, 4096, 128]⟩
abbrev S4096x128 : Shape := ⟨2, ![4096, 128]⟩
abbrev S1x128x4096 : Shape := ⟨3, ![1, 128, 4096]⟩
abbrev S128x4096 : Shape := ⟨2, ![128, 4096]⟩
abbrev S256x4096 : Shape := ⟨2, ![256, 4096]⟩
abbrev S1x1x256x128 : Shape := ⟨4, ![1, 1, 256, 128]⟩
abbrev S256x128 : Shape := ⟨2, ![256, 128]⟩
abbrev S256x1 : Shape := ⟨2, ![256, 1]⟩
abbrev S256x256 : Shape := ⟨2, ![256, 256]⟩
abbrev S1x128 : Shape := ⟨2, ![1, 128]⟩
abbrev S1 : Shape := ⟨1, ![1]⟩
abbrev S1x1 : Shape := ⟨2, ![1, 1]⟩

abbrev nBuf : Space → Nat
  | .hbm => 70
  | .vmem => 13
  | .smem => 0
  | _ => 0

abbrev bufTy : (tb : Table) → Fin (tcTables nBuf tb) → BufTy
  | .hbm, ⟨0, _⟩ => ⟨S4x4096x8192, .f32⟩
  | .hbm, ⟨1, _⟩ => ⟨S32x16, .f32⟩
  | .hbm, ⟨2, _⟩ => ⟨S2x4x128, .f32⟩
  | .hbm, ⟨3, _⟩ => ⟨S2x256, .f32⟩
  | .hbm, ⟨4, _⟩ => ⟨S4x4096x64x128, .f32⟩
  | .hbm, ⟨5, _⟩ => ⟨S4x64x4096x128, .f32⟩
  | .hbm, ⟨6, _⟩ => ⟨S4x64x4096x128, .bf16⟩
  | .hbm, ⟨7, _⟩ => ⟨S8064, .i32⟩
  | .hbm, ⟨8, _⟩ => ⟨S1x8064, .i32⟩
  | .hbm, ⟨9, _⟩ => ⟨S128, .i32⟩
  | .hbm, ⟨10, _⟩ => ⟨S128x1, .i32⟩
  | .hbm, ⟨11, _⟩ => ⟨S128x8064, .i32⟩
  | .hbm, ⟨12, _⟩ => ⟨S128x8064, .i32⟩
  | .hbm, ⟨13, _⟩ => ⟨S128x8064, .i32⟩
  | .hbm, ⟨14, _⟩ => ⟨S_, .i32⟩
  | .hbm, ⟨15, _⟩ => ⟨S128x8064, .i32⟩
  | .hbm, ⟨16, _⟩ => ⟨S128x8064, .i32⟩
  | .hbm, ⟨17, _⟩ => ⟨S128x8064, .i32⟩
  | .hbm, ⟨18, _⟩ => ⟨S_, .i32⟩
  | .hbm, ⟨19, _⟩ => ⟨S128x8064, .i32⟩
  | .hbm, ⟨20, _⟩ => ⟨S128x8064, .i32⟩
  | .hbm, ⟨21, _⟩ => ⟨S128x8064, .f32⟩
  | .hbm, ⟨22, _⟩ => ⟨S_, .f32⟩
  | .hbm, ⟨23, _⟩ => ⟨S128x8064, .f32⟩
  | .hbm, ⟨24, _⟩ => ⟨S128x8064, .f32⟩
  | .hbm, ⟨25, _⟩ => ⟨S128x8064, .f32⟩
  | .hbm, ⟨26, _⟩ => ⟨S_, .f32⟩
  | .hbm, ⟨27, _⟩ => ⟨S128x8064, .f32⟩
  | .hbm, ⟨28, _⟩ => ⟨S128x8064, .f32⟩
  | .hbm, ⟨29, _⟩ => ⟨S_, .f32⟩
  | .hbm, ⟨30, _⟩ => ⟨S128x8064, .f32⟩
  | .hbm, ⟨31, _⟩ => ⟨S128x8064, .f32⟩
  | .hbm, ⟨32, _⟩ => ⟨S128x8064, .i32⟩
  | .hbm, ⟨33, _⟩ => ⟨S_, .i32⟩
  | .hbm, ⟨34, _⟩ => ⟨S128x8064, .i32⟩
  | .hbm, ⟨35, _⟩ => ⟨S128x8064, .i32⟩
  | .hbm, ⟨36, _⟩ => ⟨S_, .i32⟩
  | .hbm, ⟨37, _⟩ => ⟨S128x8064, .i32⟩
  | .hbm, ⟨38, _⟩ => ⟨S128x8064, .i32⟩
  | .hbm, ⟨39, _⟩ => ⟨S_, .i32⟩
  | .hbm, ⟨40, _⟩ => ⟨S128x8064, .i32⟩
  | .hbm, ⟨41, _⟩ => ⟨S128x8064, .i1⟩
  | .hbm, ⟨42, _⟩ => ⟨S_, .i32⟩
  | .hbm, ⟨43, _⟩ => ⟨S_, .i32⟩
  | .hbm, ⟨44, _⟩ => ⟨S128x8064, .i32⟩
  | .hbm, ⟨45, _⟩ => ⟨S128x8064, .i32⟩
  | .hbm, ⟨46, _⟩ => ⟨S128x8064, .i32⟩
  | .hbm, ⟨47, _⟩ => ⟨S_, .i32⟩
  | .hbm, ⟨48, _⟩ => ⟨S128x8064, .i32⟩
  | .hbm, ⟨49, _⟩ => ⟨S128x8064, .i1⟩
  | .hbm, ⟨50, _⟩ => ⟨S128x8064, .i32⟩
  | .hbm, ⟨51, _⟩ => ⟨S128x8064, .i32⟩
  | .hbm, ⟨52, _⟩ => ⟨S128x8064, .i32⟩
  | .hbm, ⟨53, _⟩ => ⟨S_, .i32⟩
  | .hbm, ⟨54, _⟩ => ⟨S128x8064, .i32⟩
  | .hbm, ⟨55, _⟩ => ⟨S128x8064, .i1⟩
  | .hbm, ⟨56, _⟩ => ⟨S_, .i32⟩
  | .hbm, ⟨57, _⟩ => ⟨S128x8064, .i32⟩
  | .hbm, ⟨58, _⟩ => ⟨S128x8064, .i32⟩
  | .hbm, ⟨59, _⟩ => ⟨S128x8064, .i32⟩
  | .hbm, ⟨60, _⟩ => ⟨S128x8064x1, .i32⟩
  | .hbm, ⟨61, _⟩ => ⟨S128x8064x16, .f32⟩
  | .hbm, ⟨62, _⟩ => ⟨S16x128x8064, .f32⟩
  | .hbm, ⟨63, _⟩ => ⟨S4x128x8064, .f32⟩
  | .hbm, ⟨64, _⟩ => ⟨S1x4x128, .f32⟩
  | .hbm, ⟨65, _⟩ => ⟨S4x128, .f32⟩
  | .hbm, ⟨66, _⟩ => ⟨S1x256, .f32⟩
  | .hbm, ⟨67, _⟩ => ⟨S256, .f32⟩
  | .hbm, ⟨68, _⟩ => ⟨S1x256, .f32⟩
  | .hbm, ⟨69, _⟩ => ⟨S4x4096x1024, .bf16⟩
  | .local _ .vmem, ⟨0, _⟩ => ⟨S1x2x256x128, .bf16⟩
  | .local _ .vmem, ⟨1, _⟩ => ⟨S1x2x256x128, .bf16⟩
  | .local _ .vmem, ⟨2, _⟩ => ⟨S1x2x4096x128, .bf16⟩
  | .local _ .vmem, ⟨3, _⟩ => ⟨S1x2x4096x128, .bf16⟩
  | .local _ .vmem, ⟨4, _⟩ => ⟨S1x2x4096x128, .bf16⟩
  | .local _ .vmem, ⟨5, _⟩ => ⟨S1x2x4096x128, .bf16⟩
  | .local _ .vmem, ⟨6, _⟩ => ⟨S1x128x8064, .f32⟩
  | .local _ .vmem, ⟨7, _⟩ => ⟨S1x128x8064, .f32⟩
  | .local _ .vmem, ⟨8, _⟩ => ⟨S4x128, .f32⟩
  | .local _ .vmem, ⟨9, _⟩ => ⟨S1x256, .f32⟩
  | .local _ .vmem, ⟨10, _⟩ => ⟨S1x256x256, .bf16⟩
  | .local _ .vmem, ⟨11, _⟩ => ⟨S1x256x256, .bf16⟩
  | .local _ .vmem, ⟨12, _⟩ => ⟨S4096x256, .bf16⟩
  | _, _ => ⟨S4x4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c_3 : Ref sig .tc := ⟨.hbm, 33, rfl⟩
abbrev main_v24 : Ref sig .tc := ⟨.hbm, 34, rfl⟩
abbrev main_v25 : Ref sig .tc := ⟨.hbm, 35, rfl⟩
abbrev main_c_4 : Ref sig .tc := ⟨.hbm, 36, rfl⟩
abbrev main_v26 : Ref sig .tc := ⟨.hbm, 37, rfl⟩
abbrev main_v27 : Ref sig .tc := ⟨.hbm, 38, rfl⟩
abbrev main_c_5 : Ref sig .tc := ⟨.hbm, 39, rfl⟩
abbrev main_v28 : Ref sig .tc := ⟨.hbm, 40, rfl⟩
abbrev main_v29 : Ref sig .tc := ⟨.hbm, 41, rfl⟩
abbrev main_c_6 : Ref sig .tc := ⟨.hbm, 42, rfl⟩
abbrev main_c_7 : Ref sig .tc := ⟨.hbm, 43, rfl⟩
abbrev main_call0_v0 : Ref sig .tc := ⟨.hbm, 44, rfl⟩
abbrev main_call0_v1 : Ref sig .tc := ⟨.hbm, 45, rfl⟩
abbrev main_v30 : Ref sig .tc := ⟨.hbm, 46, rfl⟩
abbrev main_c_8 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_c_9 : Ref sig .tc := ⟨.hbm, 53, rfl⟩
abbrev main_v36 : Ref sig .tc := ⟨.hbm, 54, rfl⟩
abbrev main_v37 : Ref sig .tc := ⟨.hbm, 55, rfl⟩
abbrev main_c_10 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![4, 4, 16], ![false, false, false]⟩

def k0_mult1 (i : grid0.Coords) : BitVec 32 :=
  let c3968_i32 : BitVec 32 := 3968#32
  let arg2 : BitVec 32 := BitVec.ofNat 32 (i 2).val
  let c256_i32 : BitVec 32 := 256#32
  let v3 : BitVec 32 := Scalar.muli arg2 c256_i32
  let v4 : BitVec 32 := Scalar.subi c3968_i32 v3
  v4
def k0_off1 (i : grid0.Coords) (c3968_i32 : BitVec 32) : Fin 3 → Nat :=
  let c0 : Index := 0#32
  let c0_1 : Index := 0#32
  let arg2 : BitVec 32 := BitVec.ofNat 32 (i 2).val
  let c256_i32 : BitVec 32 := 256#32
  let v3 : BitVec 32 := Scalar.muli arg2 c256_i32
  let v4 : BitVec 32 := Scalar.subi c3968_i32 v3
  let v5 : BitVec 32 := v4
  let v6 : Index := Scalar.indexCast v5
  ![0, 0, v6.toNat]
def k0_mult2 (i : grid0.Coords) : BitVec 32 :=
  let c3840_i32 : BitVec 32 := 3840#32
  let arg2 : BitVec 32 := BitVec.ofNat 32 (i 2).val
  let c256_i32 : BitVec 32 := 256#32
  let v3 : BitVec 32 := Scalar.muli arg2 c256_i32
  let v9 : BitVec 32 := Scalar.subi c3840_i32 v3
  v9
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi c20_i32 arg0
  let c0_i32 : BitVec 32 := 0#32
  let c0_i32_0 : BitVec 32 := 0#32
  ![arg1.toNat, v0.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.addi c24_i32 arg0
  let c0_i32 : BitVec 32 := 0#32
  let c0_i32_0 : BitVec 32 := 0#32
  let c0_i32_1 : BitVec 32 := 0#32
  ![arg1.toNat, v0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c28_i32 : BitVec 32 := 28#32
  let v0 : BitVec 32 := Scalar.addi c28_i32 arg0
  let c0_i32 : BitVec 32 := 0#32
  let c0_i32_0 : BitVec 32 := 0#32
  let c0_i32_1 : BitVec 32 := 0#32
  ![arg1.toNat, v0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

abbrev stage0_0 : Fin 2 → Memref sig .tc .vmem S1x2x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x128x8064 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== KernelIdeal.lean ====
variable {F : FTy → Type} [FloatOps F] [Named F]
def κ : String → Option EReal := fun
  | "log2e" => some (((Real.log 2)⁻¹ : ℝ) : EReal)
  | "scale_log2e" => some (((Real.sqrt 128)⁻¹ * (Real.log 2)⁻¹ : ℝ) : EReal)
  | _ => none
-- ==== ReferenceIdeal.lean ====
abbrev S4x4096x8192 : Shape := ⟨3, ![4, 4096, 8192]⟩
abbrev S32x16 : Shape := ⟨2, ![32, 16]⟩
abbrev S2x4x128 : Shape := ⟨3, ![2, 4, 128]⟩
abbrev S2x256 : Shape := ⟨2, ![2, 256]⟩
abbrev S4x4096x3072 : Shape := ⟨3, ![4, 4096, 3072]⟩
abbrev S4x4096x1024 : Shape := ⟨3, ![4, 4096, 1024]⟩
abbrev S4x4096x4x2x128 : Shape := ⟨5, ![4, 4096, 4, 2, 128]⟩
abbrev S4x4096x4x256 : Shape := ⟨4, ![4, 4096, 4, 256]⟩
abbrev S1x4x128 : Shape := ⟨3, ![1, 4, 128]⟩
abbrev S4x128 : Shape := ⟨2, ![4, 128]⟩
abbrev S1x128 : Shape := ⟨2, ![1, 128]⟩
abbrev S128 : Shape := ⟨1, ![128]⟩
abbrev S_ : Shape := ⟨0, ![]⟩
abbrev S4096 : Shape := ⟨1, ![4096]⟩
abbrev S32x4 : Shape := ⟨2, ![32, 4]⟩
abbrev S1x4096 : Shape := ⟨2, ![1, 4096]⟩
abbrev S4096x1 : Shape := ⟨2, ![4096, 1]⟩
abbrev S4096x4096 : Shape := ⟨2, ![4096, 4096]⟩
abbrev S4096x4096x1 : Shape := ⟨3, ![4096, 4096, 1]⟩
abbrev S4096x4096x4 : Shape := ⟨3, ![4096, 4096, 4]⟩
abbrev S4x4x2x4096x4096 : Shape := ⟨5, ![4, 4, 2, 4096, 4096]⟩
abbrev S4x4096x4096 : Shape := ⟨3, ![4, 4096, 4096]⟩
abbrev S4x1x4096x4096 : Shape := ⟨4, ![4, 1, 4096, 4096]⟩
abbrev S1x4x1x4096x4096 : Shape := ⟨5, ![1, 4, 1, 4096, 4096]⟩
abbrev S4x4x2x4096 : Shape := ⟨4, ![4, 4, 2, 4096]⟩
abbrev S4x4x2x4096x1 : Shape := ⟨5, ![4, 4, 2, 4096, 1]⟩
abbrev S4x4x1x4096x4096 : Shape := ⟨5, ![4, 4, 1, 4096, 4096]⟩
abbrev S4x4x4096x4096 : Shape := ⟨4, ![4, 4, 4096, 4096]⟩
abbrev S4x4x256x4096 : Shape := ⟨4, ![4, 4, 256, 4096]⟩
abbrev S1x256 : Shape := ⟨2, ![1, 256]⟩
abbrev S256 : Shape := ⟨1, ![256]⟩
abbrev S4x4096x4 : Shape := ⟨3, ![4, 4096, 4]⟩
abbrev S4x4096x4x1 : Shape := ⟨4, ![4, 4096, 4, 1]⟩
abbrev S1x1x1x256 : Shape := ⟨4, ![1, 1, 1, 256]⟩

abbrev nBuf : Space → Nat
  | .hbm => 140
  | .vmem => 0
  | .smem => 0
  | _ => 0

abbrev hbmTy0_0 (i : Nat) : BufTy := match i % 128 with
  | 0 => ⟨S4x4096x8192, .f32⟩
  | 1 => ⟨S32x16, .f32⟩
  | 2 => ⟨S2x4x128, .f32⟩
  | 3 => ⟨S2x256, .f32⟩
  | 4 => ⟨S4x4096x3072, .f32⟩
  | 5 => ⟨S4x4096x1024, .f32⟩
  | 6 => ⟨S4x4096x4x2x128, .f32⟩
  | 7 => ⟨S4x4096x1024, .f32⟩
  | 8 => ⟨S4x4096x4x2x128, .f32⟩
  | 9 => ⟨S4x4096x1024, .f32⟩
  | 10 => ⟨S4x4096x4x256, .f32⟩
  | 11 => ⟨S1x4x128, .f32⟩
  | 12 => ⟨S4x128, .f32⟩
  | 13 => ⟨S1x128, .f32⟩
  | 14 => ⟨S128, .f32⟩
  | 15 => ⟨S1x128, .f32⟩
  | 16 => ⟨S128, .f32⟩
  | 17 => ⟨S128, .f32⟩
  | 18 => ⟨S_, .f32⟩
  | 19 => ⟨S_, .f32⟩
  | 20 => ⟨S_, .f32⟩
  | 21 => ⟨S1x128, .f32⟩
  | 22 => ⟨S128, .f32⟩
  | 23 => ⟨S1x128, .f32⟩
  | 24 => ⟨S128, .f32⟩
  | 25 => ⟨S128, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S4096, .i32⟩
  | 33 => ⟨S32x4, .f32⟩
  | 34 => ⟨S1x4096, .i32⟩
  | 35 => ⟨S4096x1, .i32⟩
  | 36 => ⟨S4096x4096, .i32⟩
  | 37 => ⟨S4096x4096, .i32⟩
  | 38 => ⟨S4096x4096, .i32⟩
  | 39 => ⟨S4096x4096, .i32⟩
  | 40 => ⟨S_, .i32⟩
  | 41 => ⟨S4096x4096, .i32⟩
  | 42 => ⟨S4096x4096, .i32⟩
  | 43 => ⟨S4096x4096, .f32⟩
  | 44 => ⟨S_, .f32⟩
  | 45 => ⟨S4096x4096, .f32⟩
  | 46 => ⟨S4096x4096, .f32⟩
  | 47 => ⟨S4096x4096, .f32⟩
  | 48 => ⟨S_, .f32⟩
  | 49 => ⟨S4096x4096, .f32⟩
  | 50 => ⟨S4096x4096, .f32⟩
  | 51 => ⟨S_, .f32⟩
  | 52 => ⟨S4096x4096, .f32⟩
  | 53 => ⟨S4096x4096, .f32⟩
  | 54 => ⟨S4096x4096, .i32⟩
  | 55 => ⟨S_, .i32⟩
  | 56 => ⟨S4096x4096, .i32⟩
  | 57 => ⟨S4096x4096, .i32⟩
  | 58 => ⟨S_, .i32⟩
  | 59 => ⟨S4096x4096, .i32⟩
  | 60 => ⟨S4096x4096, .i32⟩
  | 61 => ⟨S_, .i32⟩
  | 62 => ⟨S4096x4096, .i32⟩
  | 63 => ⟨S4096x4096, .i1⟩
  | 64 => ⟨S_, .i32⟩
  | 65 => ⟨S_, .i32⟩
  | 66 => ⟨S4096x4096, .i32⟩
  | 67 => ⟨S4096x4096, .i32⟩
  | 68 => ⟨S4096x4096, .i32⟩
  | 69 => ⟨S_, .i32⟩
  | 70 => ⟨S4096x4096, .i32⟩
  | 71 => ⟨S4096x4096, .i1⟩
  | 72 => ⟨S4096x4096, .i32⟩
  | 73 => ⟨S4096x4096, .i32⟩
  | 74 => ⟨S4096x4096, .i32⟩
  | 75 => ⟨S_, .i32⟩
  | 76 => ⟨S4096x4096, .i32⟩
  | 77 => ⟨S4096x4096, .i1⟩
  | 78 => ⟨S_, .i32⟩
  | 79 => ⟨S4096x4096, .i32⟩
  | 80 => ⟨S4096x4096, .i32⟩
  | 81 => ⟨S4096x4096, .i32⟩
  | 82 => ⟨S4096x4096x1, .i32⟩
  | 83 => ⟨S4096x4096x4, .f32⟩
  | 84 => ⟨S4x4x2x4096x4096, .f32⟩
  | 85 => ⟨S_, .f32⟩
  | 86 => ⟨S_, .f32⟩
  | 87 => ⟨S4x4x2x4096x4096, .f32⟩
  | 88 => ⟨S4x4x2x4096x4096, .f32⟩
  | 89 => ⟨S4x4096x4096, .f32⟩
  | 90 => ⟨S4x1x4096x4096, .f32⟩
  | 91 => ⟨S1x4x1x4096x4096, .f32⟩
  | 92 => ⟨S4x4x2x4096x4096, .f32⟩
  | 93 => ⟨S4x4x2x4096x4096, .f32⟩
  | 94 => ⟨S_, .f32⟩
  | 95 => ⟨S4x4x2x4096, .f32⟩
  | 96 => ⟨S_, .f32⟩
  | 97 => ⟨S4x4x2x4096, .f32⟩
  | 98 => ⟨S4x4x2x4096, .f32⟩
  | 99 => ⟨S4x4x2x4096x1, .f32⟩
  | 100 => ⟨S4x4x2x4096x4096, .f32⟩
  | 101 => ⟨S4x4x2x4096x4096, .f32⟩
  | 102 => ⟨S4x4x2x4096x4096, .f32⟩
  | 103 => ⟨S_, .f32⟩
  | 104 => ⟨S4x4x2x4096, .f32⟩
  | 105 => ⟨S4x4x2x4096x1, .f32⟩
  | 106 => ⟨S4x4x2x4096x4096, .f32⟩
  | 107 => ⟨S4x4x2x4096x4096, .f32⟩
  | 108 => ⟨S4x4x1x4096x4096, .f32⟩
  | 109 => ⟨S4x4x4096x4096, .f32⟩
  | 110 => ⟨S4x4x1x4096x4096, .f32⟩
  | 111 => ⟨S4x4x4096x4096, .f32⟩
  | 112 => ⟨S4x4x4096x4096, .f32⟩
  | 113 => ⟨S4x4x4096x4096, .f32⟩
  | 114 => ⟨S4x4x4096x4096, .f32⟩
  | 115 => ⟨S4x4x256x4096, .f32⟩
  | 116 => ⟨S4x4096x4x256, .f32⟩
  | 117 => ⟨S1x256, .f32⟩
  | 118 => ⟨S256, .f32⟩
  | 119 => ⟨S4x4096x4x256, .f32⟩
  | 120 => ⟨S_, .f32⟩
  | 121 => ⟨S4x4096x4, .f32⟩
  | 122 => ⟨S4x4096x4x1, .f32⟩
  | 123 => ⟨S_, .f32⟩
  | 124 => ⟨S4x4096x4x1, .f32⟩
  | 125 => ⟨S4x4096x4x1, .f32⟩
  | 126 => ⟨S_, .f32⟩
  | 127 => ⟨S4x4096x4x1, .f32⟩
  | _ => ⟨S4x4096x8192, .f32⟩

abbrev hbmTy0_1 (i : Nat) : BufTy := match i % 128 with
  | 0 => ⟨S4x4096x4x1, .f32⟩
  | 1 => ⟨S4x4096x4x1, .f32⟩
  | 2 => ⟨S4x4096x4x256, .f32⟩
  | 3 => ⟨S4x4096x4x256, .f32⟩
  | 4 => ⟨S1x1x1x256, .f32⟩
  | 5 => ⟨S4x4096x4x256, .f32⟩
  | 6 => ⟨S4x4096x4x256, .f32⟩
  | 7 => ⟨S_, .f32⟩
  | 8 => ⟨S4x4096x4x256, .f32⟩
  | 9 => ⟨S4x4096x4x256, .f32⟩
  | 10 => ⟨S4x4096x1024, .f32⟩
  | 11 => ⟨S4x4096x1024, .bf16⟩
  | _ => ⟨S4x4096x8192, .f32⟩

abbrev hbmTy (i : Nat) : BufTy := match i / 128 with
  | 0 => hbmTy0_0 i
  | 1 => hbmTy0_1 i
  | _ => ⟨S4x4096x8192, .f32⟩

abbrev bufTy : (tb : Table) → Fin (tcTables nBuf tb) → BufTy
  | .hbm, ⟨i, _⟩ => hbmTy i
  | _, _ => ⟨S4x4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_0 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_1 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_c : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_2 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_3 : Ref sig .tc := ⟨.hbm, 48, rfl⟩
abbrev main_v39 : Ref sig .tc := ⟨.hbm, 49, rfl⟩
abbrev main_v40 : Ref sig .tc := ⟨.hbm, 50, rfl⟩
abbrev main_cst_4 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_c_5 : Ref sig .tc := ⟨.hbm, 55, rfl⟩
abbrev main_v44 : Ref sig .tc := ⟨.hbm, 56, rfl⟩
abbrev main_v45 : Ref sig .tc := ⟨.hbm, 57, rfl⟩
abbrev main_c_6 : Ref sig .tc := ⟨.hbm, 58, rfl⟩
abbrev main_v46 : Ref sig .tc := ⟨.hbm, 59, rfl⟩
abbrev main_v47 : Ref sig .tc := ⟨.hbm, 60, rfl⟩
abbrev main_c_7 : Ref sig .tc := ⟨.hbm, 61, rfl⟩
abbrev main_v48 : Ref sig .tc := ⟨.hbm, 62, rfl⟩
abbrev main_v49 : Ref sig .tc := ⟨.hbm, 63, rfl⟩
abbrev main_c_8 : Ref sig .tc := ⟨.hbm, 64, rfl⟩
abbrev main_c_9 : Ref sig .tc := ⟨.hbm, 65, rfl⟩
abbrev main_call0_v0 : Ref sig .tc := ⟨.hbm, 66, rfl⟩
abbrev main_call0_v1 : Ref sig .tc := ⟨.hbm, 67, rfl⟩
abbrev main_v50 : Ref sig .tc := ⟨.hbm, 68, rfl⟩
abbrev main_c_10 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_c_11 : Ref sig .tc := ⟨.hbm, 75, rfl⟩
abbrev main_v56 : Ref sig .tc := ⟨.hbm, 76, rfl⟩
abbrev main_v57 : Ref sig .tc := ⟨.hbm, 77, rfl⟩
abbrev main_c_12 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_13 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_14 : Ref sig .tc := ⟨.hbm, 94, rfl⟩
abbrev main_v72 : Ref sig .tc := ⟨.hbm, 95, rfl⟩
abbrev main_cst_15 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_cst_16 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_cst_17 : Ref sig .tc := ⟨.hbm, 120, rfl⟩
abbrev main_v95 : Ref sig .tc := ⟨.hbm, 121, rfl⟩
abbrev main_v96 : Ref sig .tc := ⟨.hbm, 122, rfl⟩
abbrev main_cst_18 : Ref sig .tc := ⟨.hbm, 123, rfl⟩
abbrev main_v97 : Ref sig .tc := ⟨.hbm, 124, rfl⟩
abbrev main_v98 : Ref sig .tc := ⟨.hbm, 125, rfl⟩
abbrev main_cst_19 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_cst_20 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩

abbrev nD : Nat := 1
abbrev τ : Topo := Topo.v7x

variable {F : FTy → Type} [FloatOps F]
-- ==== Kernel2.lean ====
abbrev S4x4096x2048 : Shape := ⟨3, ![4, 4096, 2048]⟩
abbrev S2x2048 : Shape := ⟨2, ![2, 2048]⟩
abbrev S2x2048x14336 : Shape := ⟨3, ![2, 2048, 14336]⟩
abbrev S16384x2048 : Shape := ⟨2, ![16384, 2048]⟩
abbrev S1x2048 : Shape := ⟨2, ![1, 2048]⟩
abbrev S2048 : Shape := ⟨1, ![2048]⟩
abbrev S4x64x4096x128 : Shape := ⟨4, ![4, 64, 4096, 128]⟩
abbrev S4x48x4096x128 : Shape := ⟨4, ![4, 48, 4096, 128]⟩
abbrev S512x2048 : Shape := ⟨2, ![512, 2048]⟩
abbrev S1x2048x2048 : Shape := ⟨3, ![1, 2048, 2048]⟩
abbrev S1x16x512x128 : Shape := ⟨4, ![1, 16, 512, 128]⟩
abbrev S512 : Shape := ⟨1, ![512]⟩
abbrev S512x1 : Shape := ⟨2, ![512, 1]⟩
abbrev S2048x2048 : Shape := ⟨2, ![2048, 2048]⟩
abbrev S512x128 : Shape := ⟨2, ![512, 128]⟩
abbrev S1x1x512x128 : Shape := ⟨4, ![1, 1, 512, 128]⟩

abbrev nBuf : Space → Nat
  | .hbm => 11
  | .vmem => 12
  | .smem => 0
  | _ => 0

abbrev bufTy : (tb : Table) → Fin (tcTables nBuf tb) → BufTy
  | .hbm, ⟨0, _⟩ => ⟨S4x4096x2048, .f32⟩
  | .hbm, ⟨1, _⟩ => ⟨S2x2048, .f32⟩
  | .hbm, ⟨2, _⟩ => ⟨S2x2048x14336, .f32⟩
  | .hbm, ⟨3, _⟩ => ⟨S16384x2048, .f32⟩
  | .hbm, ⟨4, _⟩ => ⟨S1x2048, .f32⟩
  | .hbm, ⟨5, _⟩ => ⟨S2048, .f32⟩
  | .hbm, ⟨6, _⟩ => ⟨S2x2048x14336, .bf16⟩
  | .hbm, ⟨7, _⟩ => ⟨S1x2048, .f32⟩
  | .hbm, ⟨8, _⟩ => ⟨S16384x2048, .bf16⟩
  | .hbm, ⟨9, _⟩ => ⟨S4x64x4096x128, .bf16⟩
  | .hbm, ⟨10, _⟩ => ⟨S4x48x4096x128, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048x2048, .bf16⟩
  | .local _ .vmem, ⟨4, _⟩ => ⟨S1x2048x2048, .bf16⟩
  | .local _ .vmem, ⟨5, _⟩ => ⟨S512x2048, .bf16⟩
  | .local _ .vmem, ⟨6, _⟩ => ⟨S512x2048, .bf16⟩
  | .local _ .vmem, ⟨7, _⟩ => ⟨S1x16x512x128, .bf16⟩
  | .local _ .vmem, ⟨8, _⟩ => ⟨S1x16x512x128, .bf16⟩
  | .local _ .vmem, ⟨9, _⟩ => ⟨S1x16x512x128, .f32⟩
  | .local _ .vmem, ⟨10, _⟩ => ⟨S1x16x512x128, .f32⟩
  | .local _ .vmem, ⟨11, _⟩ => ⟨S512x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c3_i32 : BitVec 32 := 3#32
  let v87 : BitVec 1 := Scalar.cmpi .slt arg1 c3_i32
  let v88 : BitVec 32 := Scalar.extui v87
  let c0_i32_54 : BitVec 32 := 0#32
  let v89 : BitVec 1 := Scalar.cmpi .ne v88 c0_i32_54
  v89

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, arg1.toNat, v26.toNat, c0_i32_10.toNat]

def cc0_transform_5 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.minsi arg1 c2_i32
  let c8_i32_4 : BitVec 32 := 8#32
  let c0_i32_5 : BitVec 32 := 0#32
  let v18 : BitVec 1 := Scalar.cmpi .eq c8_i32_4 c0_i32_5
  let c1_i32_6 : BitVec 32 := 1#32
  let v19 : BitVec 32 := Scalar.select v18 c1_i32_6 c8_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v16.toNat, v17.toNat, v27.toNat, c0_i32_10.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x16x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S4x4096x2048 : Shape := ⟨3, ![4, 4096, 2048]⟩
abbrev S2x2048 : Shape := ⟨2, ![2, 2048]⟩
abbrev S2x2048x14336 : Shape := ⟨3, ![2, 2048, 14336]⟩
abbrev S1x2048 : Shape := ⟨2, ![1, 2048]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S1x2048x14336 : Shape := ⟨3, ![1, 2048, 14336]⟩
abbrev S2048x14336 : Shape := ⟨2, ![2048, 14336]⟩
abbrev S4x4096x14336 : Shape := ⟨3, ![4, 4096, 14336]⟩
abbrev S4x4096x8192 : Shape := ⟨3, ![4, 4096, 8192]⟩
abbrev S4x4096x64x128 : Shape := ⟨4, ![4, 4096, 64, 128]⟩
abbrev S4x64x4096x128 : Shape := ⟨4, ![4, 64, 4096, 128]⟩
abbrev S16384x2048 : Shape := ⟨2, ![16384, 2048]⟩
abbrev S4x48x4096x128 : Shape := ⟨4, ![4, 48, 4096, 128]⟩

abbrev nBuf : Space → Nat
  | .hbm => 31
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2x2048, .f32⟩
  | .hbm, ⟨2, _⟩ => ⟨S2x2048x14336, .f32⟩
  | .hbm, ⟨3, _⟩ => ⟨S1x2048, .f32⟩
  | .hbm, ⟨4, _⟩ => ⟨S2048, .f32⟩
  | .hbm, ⟨5, _⟩ => ⟨S4x4096x2048, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x2048, .f32⟩
  | .hbm, ⟨17, _⟩ => ⟨S4x4096x2048, .f32⟩
  | .hbm, ⟨18, _⟩ => ⟨S1x1x2048, .f32⟩
  | .hbm, ⟨19, _⟩ => ⟨S4x4096x2048, .f32⟩
  | .hbm, ⟨20, _⟩ => ⟨S4x4096x2048, .f32⟩
  | .hbm, ⟨21, _⟩ => ⟨S1x2048x14336, .f32⟩
  | .hbm, ⟨22, _⟩ => ⟨S2048x14336, .f32⟩
  | .hbm, ⟨23, _⟩ => ⟨S4x4096x14336, .f32⟩
  | .hbm, ⟨24, _⟩ => ⟨S4x4096x8192, .f32⟩
  | .hbm, ⟨25, _⟩ => ⟨S4x4096x64x128, .f32⟩
  | .hbm, ⟨26, _⟩ => ⟨S4x64x4096x128, .f32⟩
  | .hbm, ⟨27, _⟩ => ⟨S16384x2048, .f32⟩
  | .hbm, ⟨28, _⟩ => ⟨S16384x2048, .bf16⟩
  | .hbm, ⟨29, _⟩ => ⟨S4x64x4096x128, .bf16⟩
  | .hbm, ⟨30, _⟩ => ⟨S4x48x4096x128, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== Kernel3.lean ====
abbrev S4x4096x2048 : Shape := ⟨3, ![4, 4096, 2048]⟩
abbrev S2x2048x14336 : Shape := ⟨3, ![2, 2048, 14336]⟩
abbrev S2x6144 : Shape := ⟨2, ![2, 6144]⟩
abbrev S4x4096x512 : Shape := ⟨3, ![4, 4096, 512]⟩
abbrev S4x4096x1024 : Shape := ⟨3, ![4, 4096, 1024]⟩
abbrev S2x512x2048 : Shape := ⟨3, ![2, 512, 2048]⟩
abbrev S2x1024x2048 : Shape := ⟨3, ![2, 1024, 2048]⟩
abbrev S16384x2048 : Shape := ⟨2, ![16384, 2048]⟩
abbrev S1x6144 : Shape := ⟨2, ![1, 6144]⟩
abbrev S6144 : Shape := ⟨1, ![6144]⟩
abbrev S4096x4x512 : Shape := ⟨3, ![4096, 4, 512]⟩
abbrev S4096x2048 : Shape := ⟨2, ![4096, 2048]⟩
abbrev S16384x512 : Shape := ⟨2, ![16384, 512]⟩
abbrev S16384x1024 : Shape := ⟨2, ![16384, 1024]⟩
abbrev S1x512x2048 : Shape := ⟨3, ![1, 512, 2048]⟩
abbrev S512x2048 : Shape := ⟨2, ![512, 2048]⟩
abbrev S1x1024x2048 : Shape := ⟨3, ![1, 1024, 2048]⟩
abbrev S1024x2048 : Shape := ⟨2, ![1024, 2048]⟩
abbrev S3x1x2048 : Shape := ⟨3, ![3, 1, 2048]⟩
abbrev S1x2048x512 : Shape := ⟨3, ![1, 2048, 512]⟩
abbrev S3x1x512 : Shape := ⟨3, ![3, 1, 512]⟩
abbrev S512x512 : Shape := ⟨2, ![512, 512]⟩
abbrev S512x1024 : Shape := ⟨2, ![512, 1024]⟩
abbrev S1024x512 : Shape := ⟨2, ![1024, 512]⟩
abbrev S2048x512 : Shape := ⟨2, ![2048, 512]⟩
abbrev S1x1x512 : Shape := ⟨3, ![1, 1, 512]⟩
abbrev S1x512 : Shape := ⟨2, ![1, 512]⟩

abbrev nBuf : Space → Nat
  | .hbm => 32
  | .vmem => 24
  | .smem => 0
  | _ => 0

abbrev bufTy : (tb : Table) → Fin (tcTables nBuf tb) → BufTy
  | .hbm, ⟨0, _⟩ => ⟨S4x4096x2048, .f32⟩
  | .hbm, ⟨1, _⟩ => ⟨S2x2048x14336, .f32⟩
  | .hbm, ⟨2, _⟩ => ⟨S2x6144, .f32⟩
  | .hbm, ⟨3, _⟩ => ⟨S4x4096x512, .f32⟩
  | .hbm, ⟨4, _⟩ => ⟨S4x4096x512, .f32⟩
  | .hbm, ⟨5, _⟩ => ⟨S4x4096x1024, .f32⟩
  | .hbm, ⟨6, _⟩ => ⟨S2x512x2048, .f32⟩
  | .hbm, ⟨7, _⟩ => ⟨S2x512x2048, .f32⟩
  | .hbm, ⟨8, _⟩ => ⟨S2x1024x2048, .f32⟩
  | .hbm, ⟨9, _⟩ => ⟨S16384x2048, .f32⟩
  | .hbm, ⟨10, _⟩ => ⟨S16384x2048, .bf16⟩
  | .hbm, ⟨11, _⟩ => ⟨S2x2048x14336, .bf16⟩
  | .hbm, ⟨12, _⟩ => ⟨S1x6144, .f32⟩
  | .hbm, ⟨13, _⟩ => ⟨S6144, .f32⟩
  | .hbm, ⟨14, _⟩ => ⟨S4096x4x512, .f32⟩
  | .hbm, ⟨15, _⟩ => ⟨S4096x2048, .f32⟩
  | .hbm, ⟨16, _⟩ => ⟨S4096x2048, .bf16⟩
  | .hbm, ⟨17, _⟩ => ⟨S16384x512, .f32⟩
  | .hbm, ⟨18, _⟩ => ⟨S16384x512, .bf16⟩
  | .hbm, ⟨19, _⟩ => ⟨S16384x1024, .f32⟩
  | .hbm, ⟨20, _⟩ => ⟨S16384x1024, .bf16⟩
  | .hbm, ⟨21, _⟩ => ⟨S1x512x2048, .f32⟩
  | .hbm, ⟨22, _⟩ => ⟨S512x2048, .f32⟩
  | .hbm, ⟨23, _⟩ => ⟨S512x2048, .bf16⟩
  | .hbm, ⟨24, _⟩ => ⟨S1x512x2048, .f32⟩
  | .hbm, ⟨25, _⟩ => ⟨S512x2048, .f32⟩
  | .hbm, ⟨26, _⟩ => ⟨S512x2048, .bf16⟩
  | .hbm, ⟨27, _⟩ => ⟨S1x1024x2048, .f32⟩
  | .hbm, ⟨28, _⟩ => ⟨S1024x2048, .f32⟩
  | .hbm, ⟨29, _⟩ => ⟨S1024x2048, .bf16⟩
  | .hbm, ⟨30, _⟩ => ⟨S3x1x2048, .f32⟩
  | .hbm, ⟨31, _⟩ => ⟨S16384x2048, .bf16⟩
  | .local _ .vmem, ⟨0, _⟩ => ⟨S512x2048, .bf16⟩
  | .local _ .vmem, ⟨1, _⟩ => ⟨S512x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x2048x512, .bf16⟩
  | .local _ .vmem, ⟨8, _⟩ => ⟨S3x1x512, .f32⟩
  | .local _ .vmem, ⟨9, _⟩ => ⟨S3x1x512, .f32⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x1024, .bf16⟩
  | .local _ .vmem, ⟨15, _⟩ => ⟨S512x1024, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S1024x512, .bf16⟩
  | .local _ .vmem, ⟨21, _⟩ => ⟨S1024x512, .bf16⟩
  | .local _ .vmem, ⟨22, _⟩ => ⟨S512x512, .bf16⟩
  | .local _ .vmem, ⟨23, _⟩ => ⟨S512x512, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 3 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg1
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  let c0_i32_0 : BitVec 32 := 0#32
  let c0_i32_1 : BitVec 32 := 0#32
  ![c0_i32.toNat, c0_i32_0.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c8_i32_3 : BitVec 32 := 8#32
  let v10 : BitVec 32 := Scalar.divsi arg0 c8_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c8_i32_3 c0_i32_6
  let v17 : BitVec 32 := Scalar.extui v16
  let c0_i32_7 : BitVec 32 := 0#32
  let v18 : BitVec 1 := Scalar.cmpi .slt c8_i32_3 c0_i32_7
  let v19 : BitVec 32 := Scalar.extui v18
  let v20 : BitVec 32 := Scalar.subi v17 v19
  let v21 : BitVec 1 := Scalar.cmpi .ne v15 v20
  let v22 : BitVec 32 := Scalar.remsi arg0 c8_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  ![v9.toNat, v26.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S3x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference3Ideal.lean ====
abbrev S4x4096x2048 : Shape := ⟨3, ![4, 4096, 2048]⟩
abbrev S2x2048x14336 : Shape := ⟨3, ![2, 2048, 14336]⟩
abbrev S2x6144 : Shape := ⟨2, ![2, 6144]⟩
abbrev S4x4096x512 : Shape := ⟨3, ![4, 4096, 512]⟩
abbrev S4x4096x1024 : Shape := ⟨3, ![4, 4096, 1024]⟩
abbrev S2x512x2048 : Shape := ⟨3, ![2, 512, 2048]⟩
abbrev S2x1024x2048 : Shape := ⟨3, ![2, 1024, 2048]⟩
abbrev S1x2048x14336 : Shape := ⟨3, ![1, 2048, 14336]⟩
abbrev S2048x14336 : Shape := ⟨2, ![2048, 14336]⟩
abbrev S2048x6144 : Shape := ⟨2, ![2048, 6144]⟩
abbrev S4x4096x6144 : Shape := ⟨3, ![4, 4096, 6144]⟩
abbrev S1x6144 : Shape := ⟨2, ![1, 6144]⟩
abbrev S6144 : Shape := ⟨1, ![6144]⟩
abbrev S1x1x6144 : Shape := ⟨3, ![1, 1, 6144]⟩
abbrev S_ : Shape := ⟨0, ![]⟩
abbrev S4x4096x3x2048 : Shape := ⟨4, ![4, 4096, 3, 2048]⟩
abbrev S1x512x2048 : Shape := ⟨3, ![1, 512, 2048]⟩
abbrev S512x2048 : Shape := ⟨2, ![512, 2048]⟩
abbrev S1x1024x2048 : Shape := ⟨3, ![1, 1024, 2048]⟩
abbrev S1024x2048 : Shape := ⟨2, ![1024, 2048]⟩
abbrev S4x4096x1x2048 : Shape := ⟨4, ![4, 4096, 1, 2048]⟩
abbrev S16384x2048 : Shape := ⟨2, ![16384, 2048]⟩

abbrev nBuf : Space → Nat
  | .hbm => 49
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2x2048x14336, .f32⟩
  | .hbm, ⟨2, _⟩ => ⟨S2x6144, .f32⟩
  | .hbm, ⟨3, _⟩ => ⟨S4x4096x512, .f32⟩
  | .hbm, ⟨4, _⟩ => ⟨S4x4096x512, .f32⟩
  | .hbm, ⟨5, _⟩ => ⟨S4x4096x1024, .f32⟩
  | .hbm, ⟨6, _⟩ => ⟨S2x512x2048, .f32⟩
  | .hbm, ⟨7, _⟩ => ⟨S2x512x2048, .f32⟩
  | .hbm, ⟨8, _⟩ => ⟨S2x1024x2048, .f32⟩
  | .hbm, ⟨9, _⟩ => ⟨S1x2048x14336, .f32⟩
  | .hbm, ⟨10, _⟩ => ⟨S2048x14336, .f32⟩
  | .hbm, ⟨11, _⟩ => ⟨S2048x6144, .f32⟩
  | .hbm, ⟨12, _⟩ => ⟨S4x4096x6144, .f32⟩
  | .hbm, ⟨13, _⟩ => ⟨S1x6144, .f32⟩
  | .hbm, ⟨14, _⟩ => ⟨S6144, .f32⟩
  | .hbm, ⟨15, _⟩ => ⟨S1x1x6144, .f32⟩
  | .hbm, ⟨16, _⟩ => ⟨S4x4096x6144, .f32⟩
  | .hbm, ⟨17, _⟩ => ⟨S4x4096x6144, .f32⟩
  | .hbm, ⟨18, _⟩ => ⟨S4x4096x6144, .f32⟩
  | .hbm, ⟨19, _⟩ => ⟨S4x4096x6144, .f32⟩
  | .hbm, ⟨20, _⟩ => ⟨S_, .f32⟩
  | .hbm, ⟨21, _⟩ => ⟨S4x4096x6144, .f32⟩
  | .hbm, ⟨22, _⟩ => ⟨S4x4096x6144, .f32⟩
  | .hbm, ⟨23, _⟩ => ⟨S_, .f32⟩
  | .hbm, ⟨24, _⟩ => ⟨S4x4096x6144, .f32⟩
  | .hbm, ⟨25, _⟩ => ⟨S4x4096x6144, .f32⟩
  | .hbm, ⟨26, _⟩ => ⟨S4x4096x3x2048, .f32⟩
  | .hbm, ⟨27, _⟩ => ⟨S1x512x2048, .f32⟩
  | .hbm, ⟨28, _⟩ => ⟨S512x2048, .f32⟩
  | .hbm, ⟨29, _⟩ => ⟨S4x4096x2048, .f32⟩
  | .hbm, ⟨30, _⟩ => ⟨S1x512x2048, .f32⟩
  | .hbm, ⟨31, _⟩ => ⟨S512x2048, .f32⟩
  | .hbm, ⟨32, _⟩ => ⟨S4x4096x2048, .f32⟩
  | .hbm, ⟨33, _⟩ => ⟨S1x1024x2048, .f32⟩
  | .hbm, ⟨34, _⟩ => ⟨S1024x2048, .f32⟩
  | .hbm, ⟨35, _⟩ => ⟨S4x4096x2048, .f32⟩
  | .hbm, ⟨36, _⟩ => ⟨S4x4096x1x2048, .f32⟩
  | .hbm, ⟨37, _⟩ => ⟨S4x4096x2048, .f32⟩
  | .hbm, ⟨38, _⟩ => ⟨S4x4096x2048, .f32⟩
  | .hbm, ⟨39, _⟩ => ⟨S4x4096x1x2048, .f32⟩
  | .hbm, ⟨40, _⟩ => ⟨S4x4096x2048, .f32⟩
  | .hbm, ⟨41, _⟩ => ⟨S4x4096x2048, .f32⟩
  | .hbm, ⟨42, _⟩ => ⟨S4x4096x2048, .f32⟩
  | .hbm, ⟨43, _⟩ => ⟨S4x4096x1x2048, .f32⟩
  | .hbm, ⟨44, _⟩ => ⟨S4x4096x2048, .f32⟩
  | .hbm, ⟨45, _⟩ => ⟨S4x4096x2048, .f32⟩
  | .hbm, ⟨46, _⟩ => ⟨S4x4096x2048, .f32⟩
  | .hbm, ⟨47, _⟩ => ⟨S16384x2048, .f32⟩
  | .hbm, ⟨48, _⟩ => ⟨S16384x2048, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩

abbrev nD : Nat := 1
abbrev τ : Topo := Topo.v7x

variable {F : FTy → Type} [FloatOps F]
-- ==== Kernel4.lean ====
abbrev S4x4096x2048 : Shape := ⟨3, ![4, 4096, 2048]⟩
abbrev S2x2048x2048 : Shape := ⟨3, ![2, 2048, 2048]⟩
abbrev S16384x2048 : Shape := ⟨2, ![16384, 2048]⟩
abbrev S1x2048x2048 : Shape := ⟨3, ![1, 2048, 2048]⟩
abbrev S2048x2048 : Shape := ⟨2, ![2048, 2048]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 10
  | .vmem => 8
  | .smem => 0
  | _ => 0

abbrev bufTy : (tb : Table) → Fin (tcTables nBuf tb) → BufTy
  | .hbm, ⟨0, _⟩ => ⟨S4x4096x2048, .f32⟩
  | .hbm, ⟨1, _⟩ => ⟨S2x2048x2048, .f32⟩
  | .hbm, ⟨2, _⟩ => ⟨S4x4096x2048, .f32⟩
  | .hbm, ⟨3, _⟩ => ⟨S16384x2048, .f32⟩
  | .hbm, ⟨4, _⟩ => ⟨S16384x2048, .bf16⟩
  | .hbm, ⟨5, _⟩ => ⟨S1x2048x2048, .f32⟩
  | .hbm, ⟨6, _⟩ => ⟨S2048x2048, .f32⟩
  | .hbm, ⟨7, _⟩ => ⟨S2048x2048, .bf16⟩
  | .hbm, ⟨8, _⟩ => ⟨S16384x2048, .f32⟩
  | .hbm, ⟨9, _⟩ => ⟨S16384x2048, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S4x4096x2048 : Shape := ⟨3, ![4, 4096, 2048]⟩
abbrev S2x2048x2048 : Shape := ⟨3, ![2, 2048, 2048]⟩
abbrev S1x2048x2048 : Shape := ⟨3, ![1, 2048, 2048]⟩
abbrev S2048x2048 : Shape := ⟨2, ![2048, 2048]⟩
abbrev S16384x2048 : Shape := ⟨2, ![16384, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2x2048x2048, .f32⟩
  | .hbm, ⟨2, _⟩ => ⟨S4x4096x2048, .f32⟩
  | .hbm, ⟨3, _⟩ => ⟨S1x2048x2048, .f32⟩
  | .hbm, ⟨4, _⟩ => ⟨S2048x2048, .f32⟩
  | .hbm, ⟨5, _⟩ => ⟨S4x4096x2048, .f32⟩
  | .hbm, ⟨6, _⟩ => ⟨S4x4096x2048, .f32⟩
  | .hbm, ⟨7, _⟩ => ⟨S16384x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S4x4096x2048 : Shape := ⟨3, ![4, 4096, 2048]⟩
abbrev S2048 : Shape := ⟨1, ![2048]⟩
abbrev S16384x2048 : Shape := ⟨2, ![16384, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 5
  | .vmem => 5
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S16384x2048, .f32⟩
  | .hbm, ⟨3, _⟩ => ⟨S1x2048, .f32⟩
  | .hbm, ⟨4, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference5Ideal.lean ====
abbrev S4x4096x2048 : Shape := ⟨3, ![4, 4096, 2048]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S16384x2048 : Shape := ⟨2, ![16384, 2048]⟩

abbrev nBuf : Space → Nat
  | .hbm => 19
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S4x4096x2048, .f32⟩
  | .hbm, ⟨3, _⟩ => ⟨S_, .f32⟩
  | .hbm, ⟨4, _⟩ => ⟨S4x4096, .f32⟩
  | .hbm, ⟨5, _⟩ => ⟨S4x4096x1, .f32⟩
  | .hbm, ⟨6, _⟩ => ⟨S_, .f32⟩
  | .hbm, ⟨7, _⟩ => ⟨S4x4096x1, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S4x4096x1, .f32⟩
  | .hbm, ⟨13, _⟩ => ⟨S4x4096x2048, .f32⟩
  | .hbm, ⟨14, _⟩ => ⟨S4x4096x2048, .f32⟩
  | .hbm, ⟨15, _⟩ => ⟨S1x1x2048, .f32⟩
  | .hbm, ⟨16, _⟩ => ⟨S4x4096x2048, .f32⟩
  | .hbm, ⟨17, _⟩ => ⟨S4x4096x2048, .f32⟩
  | .hbm, ⟨18, _⟩ => ⟨S16384x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel6.lean ====
abbrev S4x4096x512 : Shape := ⟨3, ![4, 4096, 512]⟩
abbrev S128x256 : Shape := ⟨2, ![128, 256]⟩
abbrev S4x4096x4x128 : Shape := ⟨4, ![4, 4096, 4, 128]⟩
abbrev S4x4x4096x128 : Shape := ⟨4, ![4, 4, 4096, 128]⟩
abbrev S2x4096x2048 : Shape := ⟨3, ![2, 4096, 2048]⟩
abbrev S1x4x1024x128 : Shape := ⟨4, ![1, 4, 1024, 128]⟩
abbrev S2x1024x512 : Shape := ⟨3, ![2, 1024, 512]⟩
abbrev S1x1x1024x128 : Shape := ⟨4, ![1, 1, 1024, 128]⟩
abbrev S1024x128 : Shape := ⟨2, ![1024, 128]⟩
abbrev S1024x256 : Shape := ⟨2, ![1024, 256]⟩
abbrev S1x1024x128 : Shape := ⟨3, ![1, 1024, 128]⟩

abbrev nBuf : Space → Nat
  | .hbm => 7
  | .vmem => 5
  | .smem => 0
  | _ => 0

abbrev bufTy : (tb : Table) → Fin (tcTables nBuf tb) → BufTy
  | .hbm, ⟨0, _⟩ => ⟨S4x4096x512, .f32⟩
  | .hbm, ⟨1, _⟩ => ⟨S128x256, .f32⟩
  | .hbm, ⟨2, _⟩ => ⟨S4x4096x4x128, .f32⟩
  | .hbm, ⟨3, _⟩ => ⟨S4x4x4096x128, .f32⟩
  | .hbm, ⟨4, _⟩ => ⟨S4x4x4096x128, .bf16⟩
  | .hbm, ⟨5, _⟩ => ⟨S128x256, .bf16⟩
  | .hbm, ⟨6, _⟩ => ⟨S2x4096x2048, .bf16⟩
  | .local _ .vmem, ⟨0, _⟩ => ⟨S1x4x1024x128, .bf16⟩
  | .local _ .vmem, ⟨1, _⟩ => ⟨S1x4x1024x128, .bf16⟩
  | .local _ .vmem, ⟨2, _⟩ => ⟨S128x256, .bf16⟩
  | .local _ .vmem, ⟨3, _⟩ => ⟨S2x1024x512, .bf16⟩
  | .local _ .vmem, ⟨4, _⟩ => ⟨S2x1024x512, .bf16⟩
  | _, _ => ⟨S4x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S1x4x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S4x4096x512 : Shape := ⟨3, ![4, 4096, 512]⟩
abbrev S128x256 : Shape := ⟨2, ![128, 256]⟩
abbrev S4x4096x4x128 : Shape := ⟨4, ![4, 4096, 4, 128]⟩
abbrev S128x128 : Shape := ⟨2, ![128, 128]⟩
abbrev S128x4x4096x4 : Shape := ⟨4, ![128, 4, 4096, 4]⟩
abbrev S4096x4x4x128 : Shape := ⟨4, ![4096, 4, 4, 128]⟩
abbrev S4096x2048 : Shape := ⟨2, ![4096, 2048]⟩
abbrev S1x4096x2048 : Shape := ⟨3, ![1, 4096, 2048]⟩
abbrev S2x4096x2048 : Shape := ⟨3, ![2, 4096, 2048]⟩

abbrev nBuf : Space → Nat
  | .hbm => 15
  | .vmem => 0
  | .smem => 0
  | _ => 0

abbrev bufTy : (tb : Table) → Fin (tcTables nBuf tb) → BufTy
  | .hbm, ⟨0, _⟩ => ⟨S4x4096x512, .f32⟩
  | .hbm, ⟨1, _⟩ => ⟨S128x256, .f32⟩
  | .hbm, ⟨2, _⟩ => ⟨S4x4096x4x128, .f32⟩
  | .hbm, ⟨3, _⟩ => ⟨S128x128, .f32⟩
  | .hbm, ⟨4, _⟩ => ⟨S128x4x4096x4, .f32⟩
  | .hbm, ⟨5, _⟩ => ⟨S4096x4x4x128, .f32⟩
  | .hbm, ⟨6, _⟩ => ⟨S128x128, .f32⟩
  | .hbm, ⟨7, _⟩ => ⟨S128x4x4096x4, .f32⟩
  | .hbm, ⟨8, _⟩ => ⟨S4096x4x4x128, .f32⟩
  | .hbm, ⟨9, _⟩ => ⟨S4096x2048, .f32⟩
  | .hbm, ⟨10, _⟩ => ⟨S4096x2048, .f32⟩
  | .hbm, ⟨11, _⟩ => ⟨S1x4096x2048, .f32⟩
  | .hbm, ⟨12, _⟩ => ⟨S1x4096x2048, .f32⟩
  | .hbm, ⟨13, _⟩ => ⟨S2x4096x2048, .f32⟩
  | .hbm, ⟨14, _⟩ => ⟨S2x4096x2048, .bf16⟩
  | _, _ => ⟨S4x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩

abbrev nD : Nat := 1
abbrev τ : Topo := Topo.v7x

variable {F : FTy → Type} [FloatOps F]
-- ==== Kernel7.lean ====
abbrev S2x4096x2048 : Shape := ⟨3, ![2, 4096, 2048]⟩
abbrev S4096x8192 : Shape := ⟨2, ![4096, 8192]⟩
abbrev S8192x2048 : Shape := ⟨2, ![8192, 2048]⟩
abbrev S4096x2048 : Shape := ⟨2, ![4096, 2048]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S2x4096x2048, .bf16⟩
  | .hbm, ⟨1, _⟩ => ⟨S4096x8192, .f32⟩
  | .hbm, ⟨2, _⟩ => ⟨S4096x8192, .bf16⟩
  | .hbm, ⟨3, _⟩ => ⟨S8192x2048, .bf16⟩
  | .hbm, ⟨4, _⟩ => ⟨S4096x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S2x4096x2048 : Shape := ⟨3, ![2, 4096, 2048]⟩
abbrev S4096x8192 : Shape := ⟨2, ![4096, 8192]⟩
abbrev S1x4096x2048 : Shape := ⟨3, ![1, 4096, 2048]⟩
abbrev S4096x2048 : Shape := ⟨2, ![4096, 2048]⟩
abbrev S4096x4096 : Shape := ⟨2, ![4096, 4096]⟩

abbrev nBuf : Space → Nat
  | .hbm => 14
  | .vmem => 0
  | .smem => 0
  | _ => 0

abbrev bufTy : (tb : Table) → Fin (tcTables nBuf tb) → BufTy
  | .hbm, ⟨0, _⟩ => ⟨S2x4096x2048, .bf16⟩
  | .hbm, ⟨1, _⟩ => ⟨S4096x8192, .f32⟩
  | .hbm, ⟨2, _⟩ => ⟨S1x4096x2048, .bf16⟩
  | .hbm, ⟨3, _⟩ => ⟨S4096x2048, .bf16⟩
  | .hbm, ⟨4, _⟩ => ⟨S4096x2048, .f32⟩
  | .hbm, ⟨5, _⟩ => ⟨S1x4096x2048, .bf16⟩
  | .hbm, ⟨6, _⟩ => ⟨S4096x2048, .bf16⟩
  | .hbm, ⟨7, _⟩ => ⟨S4096x2048, .f32⟩
  | .hbm, ⟨8, _⟩ => ⟨S4096x4096, .f32⟩
  | .hbm, ⟨9, _⟩ => ⟨S4096x2048, .f32⟩
  | .hbm, ⟨10, _⟩ => ⟨S4096x4096, .f32⟩
  | .hbm, ⟨11, _⟩ => ⟨S4096x2048, .f32⟩
  | .hbm, ⟨12, _⟩ => ⟨S4096x2048, .f32⟩
  | .hbm, ⟨13, _⟩ => ⟨S4096x2048, .bf16⟩
  | _, _ => ⟨S2x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩

abbrev nD : Nat := 1
abbrev τ : Topo := Topo.v7x

variable {F : FTy → Type} [FloatOps F]
-- ==== Kernel8.lean ====
abbrev S32x16 : Shape := ⟨2, ![32, 16]⟩
abbrev S8191 : Shape := ⟨1, ![8191]⟩
abbrev S_ : Shape := ⟨0, ![]⟩
abbrev S8191x1 : Shape := ⟨2, ![8191, 1]⟩
abbrev S8191x16 : Shape := ⟨2, ![8191, 16]⟩
abbrev S16x8191 : Shape := ⟨2, ![16, 8191]⟩
abbrev S4x8191 : Shape := ⟨2, ![4, 8191]⟩
abbrev S4x8192 : Shape := ⟨2, ![4, 8192]⟩
abbrev S4x1x8192 : Shape := ⟨3, ![4, 1, 8192]⟩
abbrev S4x128x8064 : Shape := ⟨3, ![4, 128, 8064]⟩
abbrev S1x1x8192 : Shape := ⟨3, ![1, 1, 8192]⟩
abbrev S1x128x8064 : Shape := ⟨3, ![1, 128, 8064]⟩
abbrev S1x8192 : Shape := ⟨2, ![1, 8192]⟩
abbrev S8x8192 : Shape := ⟨2, ![8, 8192]⟩
abbrev S8x8064 : Shape := ⟨2, ![8, 8064]⟩
abbrev S1x8x8064 : Shape := ⟨3, ![1, 8, 8064]⟩

abbrev nBuf : Space → Nat
  | .hbm => 57
  | .vmem => 4
  | .smem => 0
  | _ => 0

abbrev bufTy : (tb : Table) → Fin (tcTables nBuf tb) → BufTy
  | .hbm, ⟨0, _⟩ => ⟨S32x16, .f32⟩
  | .hbm, ⟨1, _⟩ => ⟨S8191, .i32⟩
  | .hbm, ⟨2, _⟩ => ⟨S_, .i32⟩
  | .hbm, ⟨3, _⟩ => ⟨S8191, .i32⟩
  | .hbm, ⟨4, _⟩ => ⟨S8191, .i32⟩
  | .hbm, ⟨5, _⟩ => ⟨S8191, .i32⟩
  | .hbm, ⟨6, _⟩ => ⟨S_, .i32⟩
  | .hbm, ⟨7, _⟩ => ⟨S8191, .i32⟩
  | .hbm, ⟨8, _⟩ => ⟨S8191, .i32⟩
  | .hbm, ⟨9, _⟩ => ⟨S8191, .f32⟩
  | .hbm, ⟨10, _⟩ => ⟨S_, .f32⟩
  | .hbm, ⟨11, _⟩ => ⟨S8191, .f32⟩
  | .hbm, ⟨12, _⟩ => ⟨S8191, .f32⟩
  | .hbm, ⟨13, _⟩ => ⟨S8191, .f32⟩
  | .hbm, ⟨14, _⟩ => ⟨S_, .f32⟩
  | .hbm, ⟨15, _⟩ => ⟨S8191, .f32⟩
  | .hbm, ⟨16, _⟩ => ⟨S8191, .f32⟩
  | .hbm, ⟨17, _⟩ => ⟨S_, .f32⟩
  | .hbm, ⟨18, _⟩ => ⟨S8191, .f32⟩
  | .hbm, ⟨19, _⟩ => ⟨S8191, .f32⟩
  | .hbm, ⟨20, _⟩ => ⟨S8191, .i32⟩
  | .hbm, ⟨21, _⟩ => ⟨S_, .i32⟩
  | .hbm, ⟨22, _⟩ => ⟨S8191, .i32⟩
  | .hbm, ⟨23, _⟩ => ⟨S8191, .i32⟩
  | .hbm, ⟨24, _⟩ => ⟨S_, .i32⟩
  | .hbm, ⟨25, _⟩ => ⟨S8191, .i32⟩
  | .hbm, ⟨26, _⟩ => ⟨S8191, .i32⟩
  | .hbm, ⟨27, _⟩ => ⟨S_, .i32⟩
  | .hbm, ⟨28, _⟩ => ⟨S8191, .i32⟩
  | .hbm, ⟨29, _⟩ => ⟨S8191, .i1⟩
  | .hbm, ⟨30, _⟩ => ⟨S_, .i32⟩
  | .hbm, ⟨31, _⟩ => ⟨S_, .i32⟩
  | .hbm, ⟨32, _⟩ => ⟨S8191, .i32⟩
  | .hbm, ⟨33, _⟩ => ⟨S8191, .i32⟩
  | .hbm, ⟨34, _⟩ => ⟨S8191, .i32⟩
  | .hbm, ⟨35, _⟩ => ⟨S_, .i32⟩
  | .hbm, ⟨36, _⟩ => ⟨S8191, .i32⟩
  | .hbm, ⟨37, _⟩ => ⟨S8191, .i1⟩
  | .hbm, ⟨38, _⟩ => ⟨S8191, .i32⟩
  | .hbm, ⟨39, _⟩ => ⟨S8191, .i32⟩
  | .hbm, ⟨40, _⟩ => ⟨S8191, .i32⟩
  | .hbm, ⟨41, _⟩ => ⟨S_, .i32⟩
  | .hbm, ⟨42, _⟩ => ⟨S8191, .i32⟩
  | .hbm, ⟨43, _⟩ => ⟨S8191, .i1⟩
  | .hbm, ⟨44, _⟩ => ⟨S_, .i32⟩
  | .hbm, ⟨45, _⟩ => ⟨S8191, .i32⟩
  | .hbm, ⟨46, _⟩ => ⟨S8191, .i32⟩
  | .hbm, ⟨47, _⟩ => ⟨S8191, .i32⟩
  | .hbm, ⟨48, _⟩ => ⟨S8191x1, .i32⟩
  | .hbm, ⟨49, _⟩ => ⟨S8191x16, .f32⟩
  | .hbm, ⟨50, _⟩ => ⟨S16x8191, .f32⟩
  | .hbm, ⟨51, _⟩ => ⟨S4x8191, .f32⟩
  | .hbm, ⟨52, _⟩ => ⟨S_, .i32⟩
  | .hbm, ⟨53, _⟩ => ⟨S_, .f32⟩
  | .hbm, ⟨54, _⟩ => ⟨S4x8192, .f32⟩
  | .hbm, ⟨55, _⟩ => ⟨S4x1x8192, .f32⟩
  | .hbm, ⟨56, _⟩ => ⟨S4x128x8064, .f32⟩
  | .local _ .vmem, ⟨0, _⟩ => ⟨S1x1x8192, .f32⟩
  | .local _ .vmem, ⟨1, _⟩ => ⟨S1x1x8192, .f32⟩
  | .local _ .vmem, ⟨2, _⟩ => ⟨S1x128x8064, .f32⟩
  | .local _ .vmem, ⟨3, _⟩ => ⟨S1x128x8064, .f32⟩
  | _, _ => ⟨S32x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_3 : Ref sig .tc := ⟨.hbm, 21, rfl⟩
abbrev main_v15 : Ref sig .tc := ⟨.hbm, 22, rfl⟩
abbrev main_v16 : Ref sig .tc := ⟨.hbm, 23, rfl⟩
abbrev main_c_4 : Ref sig .tc := ⟨.hbm, 24, rfl⟩
abbrev main_v17 : Ref sig .tc := ⟨.hbm, 25, rfl⟩
abbrev main_v18 : Ref sig .tc := ⟨.hbm, 26, rfl⟩
abbrev main_c_5 : Ref sig .tc := ⟨.hbm, 27, rfl⟩
abbrev main_v19 : Ref sig .tc := ⟨.hbm, 28, rfl⟩
abbrev main_v20 : Ref sig .tc := ⟨.hbm, 29, rfl⟩
abbrev main_c_6 : Ref sig .tc := ⟨.hbm, 30, rfl⟩
abbrev main_c_7 : Ref sig .tc := ⟨.hbm, 31, rfl⟩
abbrev main_call0_v0 : Ref sig .tc := ⟨.hbm, 32, rfl⟩
abbrev main_call0_v1 : Ref sig .tc := ⟨.hbm, 33, rfl⟩
abbrev main_v21 : Ref sig .tc := ⟨.hbm, 34, rfl⟩
abbrev main_c_8 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_9 : Ref sig .tc := ⟨.hbm, 41, rfl⟩
abbrev main_v27 : Ref sig .tc := ⟨.hbm, 42, rfl⟩
abbrev main_v28 : Ref sig .tc := ⟨.hbm, 43, rfl⟩
abbrev main_c_10 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_11 : Ref sig .tc := ⟨.hbm, 52, rfl⟩
abbrev main_call2_v0 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x8064 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference8Ideal.lean ====
abbrev S32x16 : Shape := ⟨2, ![32, 16]⟩
abbrev S8064 : Shape := ⟨1, ![8064]⟩
abbrev S1x8064 : Shape := ⟨2, ![1, 8064]⟩
abbrev S128 : Shape := ⟨1, ![128]⟩
abbrev S128x1 : Shape := ⟨2, ![128, 1]⟩
abbrev S128x8064 : Shape := ⟨2, ![128, 8064]⟩
abbrev S_ : Shape := ⟨0, ![]⟩
abbrev S32x4 : Shape := ⟨2, ![32, 4]⟩
abbrev S128x8064x1 : Shape := ⟨3, ![128, 8064, 1]⟩
abbrev S128x8064x4 : Shape := ⟨3, ![128, 8064, 4]⟩
abbrev S4x128x8064 : Shape := ⟨3, ![4, 128, 8064]⟩

abbrev nBuf : Space → Nat
  | .hbm => 58
  | .vmem => 0
  | .smem => 0
  | _ => 0

abbrev bufTy : (tb : Table) → Fin (tcTables nBuf tb) → BufTy
  | .hbm, ⟨0, _⟩ => ⟨S32x16, .f32⟩
  | .hbm, ⟨1, _⟩ => ⟨S8064, .i32⟩
  | .hbm, ⟨2, _⟩ => ⟨S1x8064, .i32⟩
  | .hbm, ⟨3, _⟩ => ⟨S128, .i32⟩
  | .hbm, ⟨4, _⟩ => ⟨S128x1, .i32⟩
  | .hbm, ⟨5, _⟩ => ⟨S128x8064, .i32⟩
  | .hbm, ⟨6, _⟩ => ⟨S128x8064, .i32⟩
  | .hbm, ⟨7, _⟩ => ⟨S128x8064, .i32⟩
  | .hbm, ⟨8, _⟩ => ⟨S_, .i32⟩
  | .hbm, ⟨9, _⟩ => ⟨S128x8064, .i32⟩
  | .hbm, ⟨10, _⟩ => ⟨S128x8064, .i32⟩
  | .hbm, ⟨11, _⟩ => ⟨S32x4, .f32⟩
  | .hbm, ⟨12, _⟩ => ⟨S128x8064, .i32⟩
  | .hbm, ⟨13, _⟩ => ⟨S_, .i32⟩
  | .hbm, ⟨14, _⟩ => ⟨S128x8064, .i32⟩
  | .hbm, ⟨15, _⟩ => ⟨S128x8064, .i32⟩
  | .hbm, ⟨16, _⟩ => ⟨S128x8064, .f32⟩
  | .hbm, ⟨17, _⟩ => ⟨S_, .f32⟩
  | .hbm, ⟨18, _⟩ => ⟨S128x8064, .f32⟩
  | .hbm, ⟨19, _⟩ => ⟨S128x8064, .f32⟩
  | .hbm, ⟨20, _⟩ => ⟨S128x8064, .f32⟩
  | .hbm, ⟨21, _⟩ => ⟨S_, .f32⟩
  | .hbm, ⟨22, _⟩ => ⟨S128x8064, .f32⟩
  | .hbm, ⟨23, _⟩ => ⟨S128x8064, .f32⟩
  | .hbm, ⟨24, _⟩ => ⟨S_, .f32⟩
  | .hbm, ⟨25, _⟩ => ⟨S128x8064, .f32⟩
  | .hbm, ⟨26, _⟩ => ⟨S128x8064, .f32⟩
  | .hbm, ⟨27, _⟩ => ⟨S128x8064, .i32⟩
  | .hbm, ⟨28, _⟩ => ⟨S_, .i32⟩
  | .hbm, ⟨29, _⟩ => ⟨S128x8064, .i32⟩
  | .hbm, ⟨30, _⟩ => ⟨S128x8064, .i32⟩
  | .hbm, ⟨31, _⟩ => ⟨S_, .i32⟩
  | .hbm, ⟨32, _⟩ => ⟨S128x8064, .i32⟩
  | .hbm, ⟨33, _⟩ => ⟨S128x8064, .i32⟩
  | .hbm, ⟨34, _⟩ => ⟨S_, .i32⟩
  | .hbm, ⟨35, _⟩ => ⟨S128x8064, .i32⟩
  | .hbm, ⟨36, _⟩ => ⟨S128x8064, .i1⟩
  | .hbm, ⟨37, _⟩ => ⟨S_, .i32⟩
  | .hbm, ⟨38, _⟩ => ⟨S_, .i32⟩
  | .hbm, ⟨39, _⟩ => ⟨S128x8064, .i32⟩
  | .hbm, ⟨40, _⟩ => ⟨S128x8064, .i32⟩
  | .hbm, ⟨41, _⟩ => ⟨S128x8064, .i32⟩
  | .hbm, ⟨42, _⟩ => ⟨S_, .i32⟩
  | .hbm, ⟨43, _⟩ => ⟨S128x8064, .i32⟩
  | .hbm, ⟨44, _⟩ => ⟨S128x8064, .i1⟩
  | .hbm, ⟨45, _⟩ => ⟨S128x8064, .i32⟩
  | .hbm, ⟨46, _⟩ => ⟨S128x8064, .i32⟩
  | .hbm, ⟨47, _⟩ => ⟨S128x8064, .i32⟩
  | .hbm, ⟨48, _⟩ => ⟨S_, .i32⟩
  | .hbm, ⟨49, _⟩ => ⟨S128x8064, .i32⟩
  | .hbm, ⟨50, _⟩ => ⟨S128x8064, .i1⟩
  | .hbm, ⟨51, _⟩ => ⟨S_, .i32⟩
  | .hbm, ⟨52, _⟩ => ⟨S128x8064, .i32⟩
  | .hbm, ⟨53, _⟩ => ⟨S128x8064, .i32⟩
  | .hbm, ⟨54, _⟩ => ⟨S128x8064, .i32⟩
  | .hbm, ⟨55, _⟩ => ⟨S128x8064x1, .i32⟩
  | .hbm, ⟨56, _⟩ => ⟨S128x8064x4, .f32⟩
  | .hbm, ⟨57, _⟩ => ⟨S4x128x8064, .f32⟩
  | _, _ => ⟨S32x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_c : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_c_0 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_1 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_c_3 : Ref sig .tc := ⟨.hbm, 28, rfl⟩
abbrev main_v22 : Ref sig .tc := ⟨.hbm, 29, rfl⟩
abbrev main_v23 : Ref sig .tc := ⟨.hbm, 30, rfl⟩
abbrev main_c_4 : Ref sig .tc := ⟨.hbm, 31, rfl⟩
abbrev main_v24 : Ref sig .tc := ⟨.hbm, 32, rfl⟩
abbrev main_v25 : Ref sig .tc := ⟨.hbm, 33, rfl⟩
abbrev main_c_5 : Ref sig .tc := ⟨.hbm, 34, rfl⟩
abbrev main_v26 : Ref sig .tc := ⟨.hbm, 35, rfl⟩
abbrev main_v27 : Ref sig .tc := ⟨.hbm, 36, rfl⟩
abbrev main_c_6 : Ref sig .tc := ⟨.hbm, 37, rfl⟩
abbrev main_c_7 : Ref sig .tc := ⟨.hbm, 38, rfl⟩
abbrev main_call0_v0 : Ref sig .tc := ⟨.hbm, 39, rfl⟩
abbrev main_call0_v1 : Ref sig .tc := ⟨.hbm, 40, rfl⟩
abbrev main_v28 : Ref sig .tc := ⟨.hbm, 41, rfl⟩
abbrev main_c_8 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c_9 : Ref sig .tc := ⟨.hbm, 48, rfl⟩
abbrev main_v34 : Ref sig .tc := ⟨.hbm, 49, rfl⟩
abbrev main_v35 : Ref sig .tc := ⟨.hbm, 50, rfl⟩
abbrev main_c_10 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩

abbrev nD : Nat := 1
abbrev τ : Topo := Topo.v7x

variable {F : FTy → Type} [FloatOps F]
-- ==== Proof.DiffReads.lean ====
module

public import proofs.«01_k».proof.Defs
public import proofs.«01_k».proof.Proof.Gen.Kernel.Frame
public import proofs.«01_k».proof.Proof.Gen.KernelIdeal.Value
public import proofs.«01_k».proof.Proof.Gen.ReferenceIdeal.Read
public import Idealize.ShloMosaic.Lib.Pipeline.ValueKit
public import Idealize.ShloMosaic.Lib.Pipeline.ValueKit.Held
public import Idealize.ShloMosaic.Lib.Pipeline.Covers
public import Idealize.ShloMosaic.Lib.Pipeline.ReadBack
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.KernelIdeal.RefValue

open Cert.KernelIdeal Cert.KernelIdeal.Gen

variable (m : (ℓ : Loc nD τ sig) → Buf (Elt Ideal) ℓ)

/-- The start index of a gather of rows at the result place `y`. -/
abbrev rowIdx {R S C : Nat} (y : (⟨3, ![R, S, C]⟩ : Shape).Idx) : (⟨3, ![R, S, 1]⟩ : Shape).Idx :=
  fun a => match a with | ⟨0, _⟩ => ⟨(y 0).val, (y 0).isLt⟩ | ⟨1, _⟩ => ⟨(y 1).val, (y 1).isLt⟩ | ⟨2, _⟩ => ⟨0, Nat.one_pos⟩

/-- A gather of whole rows of a table, read at an index. -/
theorem gather_rows_apply {α : Type} {N C R S w : Nat} (hN : 0 < N)
    (d : GatherDims ⟨2, ![N, C]⟩ ⟨3, ![R, S, 1]⟩ ⟨3, ![R, S, C]⟩)
    (h0 : d.offsetDims = [2]) (h1 : d.collapsedSliceDims = [0]) (h2 : d.operandBatchingDims = [])
    (h3 : d.startIndicesBatchingDims = []) (h4 : d.startIndexMap = [0]) (h5 : d.indexVectorDim = 2)
    (h6 : d.sliceSizes = ![1, C])
    (x : (⟨2, ![N, C]⟩ : Shape).Idx → α) (idx : IVec ⟨3, ![R, S, 1]⟩ w) (y : (⟨3, ![R, S, C]⟩ : Shape).Idx) :
    Host.gather d x idx y
      = x (ix2 ⟨min (idx (rowIdx y)).toInt.toNat (N - 1), by omega⟩ ⟨(y 2).val, (y 2).isLt⟩) := by
  obtain ⟨od, cd, bd, sb, sm, iv, ss, wf⟩ := d
  subst h0 h1 h2 h3 h4 h5 h6
  unfold Host.gather
  congr 1
  funext a
  refine Fin.ext ?_
  generalize hd : (GatherDims.mk (si := ⟨3, ![R, S, 1]⟩) (s := ⟨2, ![N, C]⟩) (t := ⟨3, ![R, S, C]⟩) [2] [0] [] [] [0] 2 ![1, C] wf) = d
  show d.start y idx a + d.batchCoord y a + d.offCoord y a = _
  have h01 : a = 0 ∨ a = 1 := by
    match a with
    | ⟨0, _⟩ => exact Or.inl rfl
    | ⟨1, _⟩ => exact Or.inr rfl
  rcases h01 with rfl | rfl
  · subst hd
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ [0] from List.mem_singleton.mpr rfl)]
    have hsi : (GatherDims.mk (si := ⟨3, ![R, S, 1]⟩) (s := ⟨2, ![N, C]⟩) (t := ⟨3, ![R, S, C]⟩) [2] [0] [] [] [0] 2 ![1, C] wf).siIdx y ⟨List.idxOf (0 : Fin 2) [0],
        List.idxOf_lt_length_iff.2 (List.mem_singleton.mpr rfl)⟩ = rowIdx y := by
      funext b; refine Fin.ext ?_
      match b with
      | ⟨0, _⟩ => rfl
      | ⟨1, _⟩ => rfl
      | ⟨2, _⟩ => rfl
    rw [hsi]
    rfl
  · subst hd
    rw [GatherDims.batchCoord_eq_zero _ _ _ List.not_mem_nil]
    unfold GatherDims.start
    rw [dif_neg (show ¬(1 : Fin 2) ∈ ([0] : List (Fin 2)) by decide)]
    unfold GatherDims.offCoord
    rw [dif_pos ((GatherDims.mem_sKept _ _).mpr ⟨(show ¬(1 : Fin 2) ∈ ([0] : List (Fin 2)) by decide), List.not_mem_nil⟩)]
    simp only [Nat.zero_add, Nat.add_zero]
    rfl

/-- The host's operations before the call, in one list. -/
theorem host_flat : ([hostOps0, hostOps0_1, hostOps0_2, hostOps0_3, hostOps0_4].flatten : List (HloOp τ sig (Elt Ideal)))
    = hostOps0 ++ (hostOps0_1 ++ (hostOps0_2 ++ (hostOps0_3 ++ hostOps0_4))) := by
  simp only [List.flatten_cons, List.flatten_nil, List.append_nil]

/-- A reference at its own type reads and writes its contents as they are. -/
theorem tref_v30 (v : IVec S128x8064 32) (h₁ h₂ h₃) : (StableHlo.TRef.of main_v30 h₁ h₂ h₃ : StableHlo.TRef sig ⟨S128x8064, .i32⟩).toBuf (Val := Elt Ideal) v = v := rfl
theorem tref_v33 (v : IVec S128x8064 32) (h₁ h₂ h₃) : (StableHlo.TRef.of main_v33 h₁ h₂ h₃ : StableHlo.TRef sig ⟨S128x8064, .i32⟩).toBuf (Val := Elt Ideal) v = v := rfl
theorem tref_v29 (v : IVec S128x8064 1) (h₁ h₂ h₃) : (StableHlo.TRef.of main_v29 h₁ h₂ h₃ : StableHlo.TRef sig ⟨S128x8064, .i1⟩).ofBuf (Val := Elt Ideal) v = v := rfl
theorem tref_v32 (v : IVec S128x8064 1) (h₁ h₂ h₃) : (StableHlo.TRef.of main_v32 h₁ h₂ h₃ : StableHlo.TRef sig ⟨S128x8064, .i1⟩).ofBuf (Val := Elt Ideal) v = v := rfl
theorem tref_v12 (v : IVec S128x8064 32) (h₁ h₂ h₃) : (StableHlo.TRef.of main_v12 h₁ h₂ h₃ : StableHlo.TRef sig ⟨S128x8064, .i32⟩).ofBuf (Val := Elt Ideal) v = v := rfl
theorem tref_v27 (v : IVec S128x8064 32) (h₁ h₂ h₃) : (StableHlo.TRef.of main_v27 h₁ h₂ h₃ : StableHlo.TRef sig ⟨S128x8064, .i32⟩).ofBuf (Val := Elt Ideal) v = v := rfl
theorem tref_c6 (v : IVec S_ 32) (h₁ h₂ h₃) : (StableHlo.TRef.of main_c_6 h₁ h₂ h₃ : StableHlo.TRef sig ⟨S_, .i32⟩).ofBuf (Val := Elt Ideal) v = v := rfl
theorem tref_c7 (v : IVec S_ 32) (h₁ h₂ h₃) : (StableHlo.TRef.of main_c_7 h₁ h₂ h₃ : StableHlo.TRef sig ⟨S_, .i32⟩).ofBuf (Val := Elt Ideal) v = v := rfl

/-- The bucket of a far distance: the logarithmic one, capped. -/
def far (r : BitVec 32) : BitVec 32 :=
  IntOp.minsi (IntOp.addi (8#32) (FloatOps.fptosi (F := Ideal) (φ := .f32) 32
    (Ideal.div (Ideal.log (Ideal.div (FloatOps.sitofp (F := Ideal) FTy.f32 (IntOp.maxsi (IntOp.absi r) 1#32))
      (Ideal.ofBits FTy.f32 1090519040#32))) (Ideal.ofBits FTy.f32 1085370904#32)
      * Ideal.ofBits FTy.f32 1090519040#32))) 15#32
/-- The bucket of a relative position. -/
def bkt0 (r : BitVec 32) : BitVec 32 :=
  IntOp.addi (Scalar.select (IntOp.cmpi CmpIPredicate.sgt r 0#32) 16#32 0#32)
    (Scalar.select (IntOp.cmpi CmpIPredicate.slt (IntOp.absi r) 8#32) (IntOp.absi r) (far r))
/-- The row of the table the bucket of a relative position names. -/
def bkt (r : BitVec 32) : Fin 32 :=
  ⟨min (BitVec.toInt (Scalar.select (IntOp.cmpi CmpIPredicate.slt (bkt0 r) 0#32) (IntOp.addi (bkt0 r) 32#32) (bkt0 r))).toNat 31,
    by omega⟩

/-- The strip at an index is the table's entry at the bucket of the column's distance from the row. -/
theorem V_strip (c : Dev nD) (i : S4x128x8064.Idx) :
    V m c main_v44 i = m ((c : Thread nD τ).loc main_arg1)
      (ix2 (bkt (IntOp.subi (IntOp.subi (BitVec.ofNat 32 (i 2).val) (BitVec.ofNat 32 (i 1).val)) 3968#32))
        ⟨12 + (i 0).val, by have : (i 0).val < 4 := (i 0).isLt; omega⟩) := by
  unfold V; rw [host_flat]; simp only [hostOps0, hostOps0_1, hostOps0_2, hostOps0_3, hostOps0_4, List.cons_append, List.nil_append]
  entry_read
  simp only [StableHlo.TRef.ofBuf_toBuf, tref_v30, tref_v33, tref_v29, tref_v32, tref_v12, tref_v27, tref_c6, tref_c7]
  pointwise
  rw [gather_rows_apply (by norm_num) _ rfl rfl rfl rfl rfl rfl rfl]
  pointwise
  rfl

section RefGather
open Cert.ReferenceIdeal.Read
theorem ref_rel (i : Cert.ReferenceIdeal.S4096x4096.Idx) :
    val_main_v31 (F := Ideal) i = IntOp.subi (BitVec.ofNat 32 (i 1).val) (BitVec.ofNat 32 (i 0).val) := by
  rw [val_main_v31_apply, val_main_v29_apply, val_main_v27_apply, val_main_v30_apply, val_main_v28_apply]
  rfl

theorem ref_far (i : Cert.ReferenceIdeal.S4096x4096.Idx) :
    val_main_v47 (F := Ideal) i = far (val_main_v31 (F := Ideal) i) := by
  rw [val_main_v47_apply, val_main_v45_apply, val_main_v43_apply, val_main_v42_apply, val_main_v40_apply,
    val_main_v38_apply, val_main_v37_apply, val_main_v35_apply, val_main_v34_apply, val_main_v32_apply,
    val_main_v44_apply, val_main_v46_apply, val_main_v41_apply, val_main_v39_apply, val_main_v36_apply, val_main_v33_apply,
    val_main_c_5_apply, val_main_c_6_apply, val_main_cst_4_apply, val_main_cst_3_apply, val_main_cst_2_apply,
    val_main_c_apply]
  rfl

theorem ref_bkt0 (i : Cert.ReferenceIdeal.S4096x4096.Idx) :
    val_main_v55 (F := Ideal) i = bkt0 (val_main_v31 (F := Ideal) i) := by
  rw [val_main_v55_apply, val_main_v54_apply, val_main_v53_apply, val_main_v52_apply, val_main_v50_apply,
    val_main_v49_apply, ref_far, val_main_v32_apply, val_main_v51_apply, val_main_v48_apply,
    val_main_call0_v0_apply, val_main_call0_v1_apply, val_main_c_7_apply, val_main_c_8_apply, val_main_c_9_apply,
    val_main_c_10_apply]
  rfl

theorem ref_gather (x1) (i : Cert.ReferenceIdeal.S4096x4096x4.Idx) : val_main_v62 (F := Ideal) x1 i
    = x1 (ix2 (bkt (IntOp.subi (BitVec.ofNat 32 (i 1).val) (BitVec.ofNat 32 (i 0).val)))
        ⟨12 + (i 2).val, by have : (i 2).val < 4 := (i 2).isLt; omega⟩) := by
  unfold val_main_v62
  rw [gather_rows_apply (by norm_num) _ rfl rfl rfl rfl rfl rfl rfl]
  simp only [val_main_v61_apply, val_main_v60_apply, val_main_v59_apply, val_main_v58_apply, val_main_v57_apply,
    val_main_v56_apply, ref_bkt0, ref_rel, val_main_c_11_apply, val_main_c_12_apply, val_main_v26_apply]
  congr 1
  funext a
  match a with
  | ⟨0, _⟩ => rfl
  | ⟨1, _⟩ => rfl
end RefGather

/-- The block index of every window at every grid point. -/
theorem idx : ∀ t : Fin cfg0.N, win0_0.index t = ![t.val / 16 % 4, 20 + t.val / 64, t.val % 16, 0]
    ∧ win0_1.index t = ![t.val / 16 % 4, 24 + t.val / 64, 0, 0]
    ∧ win0_2.index t = ![t.val / 16 % 4, 28 + t.val / 64, 0, 0]
    ∧ win0_3.index t = ![t.val / 64, 0, 0] ∧ win0_4.index t = ![0, 0] ∧ win0_5.index t = ![0, 0]
    ∧ win0_6.index t = ![t.val / 16 % 4, t.val % 16, t.val / 64] ∧ t.val < 256 :=
  (by decide +kernel : ∀ t : Fin grid0.N, _)

/-- The column blocks of the projection, at an index. -/
theorem V_proj (c : Dev nD) (i : S4x64x4096x128.Idx) :
    V m c main_v2 i = m ((c : Thread nD τ).loc main_arg0)
      (ix3 (i 0) (i 2) ⟨(i 1).val * 128 + (i 3).val, by
        have : (i 1).val < 64 := (i 1).isLt
        have : (i 3).val < 128 := (i 3).isLt
        omega⟩) := by
  unfold V; rw [host_flat]; simp only [hostOps0, hostOps0_1, hostOps0_2, hostOps0_3, hostOps0_4, List.cons_append, List.nil_append]
  entry_read; pointwise

/-- The lambda vectors of the layer, at an index. -/
theorem V_lam (c : Dev nD) (i : S4x128.Idx) :
    V m c main_v46 i = m ((c : Thread nD τ).loc main_arg2) (ix3 0 (i 0) (i 1)) := by
  unfold V; rw [host_flat]; simp only [hostOps0, hostOps0_1, hostOps0_2, hostOps0_3, hostOps0_4, List.cons_append, List.nil_append]
  entry_read; pointwise

/-- The norm's gain of the layer, at an index. -/
theorem V_gain (c : Dev nD) (i : S1x256.Idx) :
    V m c main_v49 i = m ((c : Thread nD τ).loc main_arg3) (ix2 0 (i 1)) := by
  unfold V; rw [host_flat]; simp only [hostOps0, hostOps0_1, hostOps0_2, hostOps0_3, hostOps0_4, List.cons_append, List.nil_append]
  entry_read; pointwise

/-- The strip at an index, its coordinates named. -/
theorem V_strip' (c : Dev nD) (i : S4x128x8064.Idx) (a b : ℕ) (e : Fin 16) (ha : (i 2).val = a) (hb : (i 1).val = b)
    (he : e.val = 12 + (i 0).val) : V m c main_v44 i = m ((c : Thread nD τ).loc main_arg1)
      (ix2 (bkt (IntOp.subi (IntOp.subi (BitVec.ofNat 32 a) (BitVec.ofNat 32 b)) 3968#32)) e) := by
  subst ha hb
  have he' : e = ⟨12 + (i 0).val, by have : (i 0).val < 4 := (i 0).isLt; omega⟩ := Fin.ext he
  rw [he', V_strip]

/-- The queries a point reads. -/
theorem rd0 (c : Dev nD) (t : Fin cfg0.N) (y : S1x2x256x128.Idx) (a : Fin 4) (b : Fin 4096) (e : Fin 8192)
    (ha : a.val = t.val / 16 % 4) (hb : b.val = t.val % 16 * 256 + (y 2).val)
    (he : e.val = 5120 + t.val / 64 * 256 + (y 1).val * 128 + (y 3).val) :
    iblk m c 0 t y = m ((c : Thread nD τ).loc main_arg0) (ix3 a b e) := by
  blk_simp [iblk]; rw [V_proj]; blk_ext [idx t]

/-- The keys a point reads. -/
theorem rd1 (c : Dev nD) (t : Fin cfg0.N) (y : S1x2x4096x128.Idx) (a : Fin 4) (b : Fin 4096) (e : Fin 8192)
    (ha : a.val = t.val / 16 % 4) (hb : b.val = (y 2).val)
    (he : e.val = 6144 + t.val / 64 * 256 + (y 1).val * 128 + (y 3).val) :
    iblk m c 1 t y = m ((c : Thread nD τ).loc main_arg0) (ix3 a b e) := by
  blk_simp [iblk]; rw [V_proj]; blk_ext [idx t]

/-- The values a point reads. -/
theorem rd2 (c : Dev nD) (t : Fin cfg0.N) (y : S1x2x4096x128.Idx) (a : Fin 4) (b : Fin 4096) (e : Fin 8192)
    (ha : a.val = t.val / 16 % 4) (hb : b.val = (y 2).val)
    (he : e.val = 7168 + t.val / 64 * 256 + (y 1).val * 128 + (y 3).val) :
    iblk m c 2 t y = m ((c : Thread nD τ).loc main_arg0) (ix3 a b e) := by
  blk_simp [iblk]; rw [V_proj]; blk_ext [idx t]

/-- The strip a point reads is its head's. -/
theorem rd3 (c : Dev nD) (t : Fin cfg0.N) (y : S1x128x8064.Idx) (e : Fin 16) (he : e.val = 12 + t.val / 64) :
    iblk m c 3 t y = m ((c : Thread nD τ).loc main_arg1)
      (ix2 (bkt (IntOp.subi (IntOp.subi (BitVec.ofNat 32 (y 2).val) (BitVec.ofNat 32 (y 1).val)) 3968#32)) e) := by
  have h : iblk m c 3 t y = V m c main_v44 (((cfg0.win 3).blk t).view.emb y) := by blk_simp [iblk]
  rw [h]
  refine V_strip' m c _ _ _ e ?_ ?_ ?_
  · blk_simp [idx t]
  · blk_simp [idx t]
  · rw [he]; congr 1; symm; blk_simp [idx t]

/-- The lambda vectors a point reads. -/
theorem rd4 (c : Dev nD) (t : Fin cfg0.N) (y : S4x128.Idx) :
    iblk m c 4 t y = m ((c : Thread nD τ).loc main_arg2) (ix3 0 (y 0) (y 1)) := by
  blk_simp [iblk]; rw [V_lam]; blk_ext [idx t]

/-- The gain a point reads. -/
theorem rd5 (c : Dev nD) (t : Fin cfg0.N) (y : S1x256.Idx) :
    iblk m c 5 t y = m ((c : Thread nD τ).loc main_arg3) (ix2 0 (y 1)) := by
  blk_simp [iblk]; rw [V_gain]; blk_ext [idx t]
end Cert.KernelIdeal.RefValue
-- ==== Proof.DiffRef.lean ====
module

public import proofs.«01_k».proof.Defs
public import proofs.«01_k».proof.Proof.Gen.Kernel.Frame
public import proofs.«01_k».proof.Proof.Gen.KernelIdeal.Value
public import proofs.«01_k».proof.Proof.DiffReads
public import Idealize.ShloMosaic.Lib.Pipeline.ValueKit
public import Idealize.ShloMosaic.Lib.Pipeline.ValueKit.Held
public import Idealize.ShloMosaic.Lib.Pipeline.Covers
public import Idealize.ShloMosaic.Lib.Pipeline.ReadBack
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.KernelIdeal.RefValue

open Cert.KernelIdeal Cert.KernelIdeal.Gen

variable (m : (ℓ : Loc nD τ sig) → Buf (Elt Ideal) ℓ)

/-! The reference's softmax and the difference of its two maps, one number at a time. -/

open Cert.ReferenceIdeal.Read

/-- The five-axis index whose coordinates are those of `i`. -/
theorem ix5_of {n0 n1 n2 n3 n4 : Nat} (i : (⟨5, ![n0, n1, n2, n3, n4]⟩ : Shape).Idx) (a : Fin n0) (b : Fin n1) (c : Fin n2)
    (d : Fin n3) (e : Fin n4) (h0 : (i 0).val = a.val) (h1 : (i 1).val = b.val) (h2 : (i 2).val = c.val) (h3 : (i 3).val = d.val)
    (h4 : (i 4).val = e.val) : i = ix5 a b c d e := by
  funext q
  match q with
  | ⟨0, _⟩ => exact Fin.ext h0
  | ⟨1, _⟩ => exact Fin.ext h1
  | ⟨2, _⟩ => exact Fin.ext h2
  | ⟨3, _⟩ => exact Fin.ext h3
  | ⟨4, _⟩ => exact Fin.ext h4

/-- Column of the projection that holds number `d` of map `j`'s query in head `h`. -/
def qcol (h : Fin 4) (j : Fin 2) (d : Fin 128) : Fin 8192 := ⟨5120 + h.val * 256 + j.val * 128 + d.val, by omega⟩
/-- Column of the projection that holds number `d` of map `j`'s key in head `h`. -/
def kcol (h : Fin 4) (j : Fin 2) (d : Fin 128) : Fin 8192 := ⟨6144 + h.val * 256 + j.val * 128 + d.val, by omega⟩
/-- Column of the projection that holds number `e` of the value of head `h`. -/
def vcol (h : Fin 4) (e : Fin 256) : Fin 8192 := ⟨7168 + h.val * 256 + e.val, by omega⟩
/-- Column of the bias table that belongs to head `h`. -/
def bcol (h : Fin 4) : Fin 16 := ⟨12 + h.val, by omega⟩

section
variable (x0 : (⟨S4x4096x8192, .f32⟩ : BufTy).Contents (Elt Ideal)) (x1 : (⟨S32x16, .f32⟩ : BufTy).Contents (Elt Ideal))
  (x2 : (⟨S2x4x128, .f32⟩ : BufTy).Contents (Elt Ideal))

/-- The word the reference starts its row maxima from, read at `Ideal`: −∞. -/
theorem bot_word : (FloatOps.ofBits .f32 0xFF800000#32 : Ideal .f32) = (⊥ : EReal) := by
  show Ideal.ofBits .f32 0xFF800000#32 = _
  simp [Ideal.ofBits, Ideal.ieee]

/-- The maximum over the last axis of a five-axis array, from −∞. -/
theorem rowMax (L : (⟨Cert.ReferenceIdeal.S4x4x2x4096x4096, .f32⟩ : BufTy).Contents (Elt Ideal)) (a b : Fin 4) (j : Fin 2) (r : Fin 4096)
    (h : Cert.ReferenceIdeal.S4x4x2x4096x4096.ReducesTo [4] Cert.ReferenceIdeal.S4x4x2x4096) (hu : 0 < Cert.ReferenceIdeal.S_.numel) :
    (Host.reduce (FloatOps.maximumf : Ideal .f32 → Ideal .f32 → Ideal .f32) L (val_main_cst_14 (F := Ideal)) h hu (ix4 a b j r) : EReal)
      = (Finset.univ.fold max (⊥ : EReal) fun k : Fin 4096 => L (ix5 a b j r k)) := by
  have h' : Cert.ReferenceIdeal.S4x4x2x4096x4096.Reduces [4] Cert.ReferenceIdeal.S4x4x2x4096 := by decide
  refine Eq.trans (Host.reduce_eq_fold_single (FloatOps.maximumf : Ideal .f32 → Ideal .f32 → Ideal .f32) L
    (val_main_cst_14 (F := Ideal)) h h' hu (ix4 a b j r)) ?_
  have hf : (L ∘ h'.lift (ix4 a b j r)) = fun k : Fin 4096 => L (ix5 a b j r k) :=
    funext fun k => congrArg L (ix5_of _ a b j r ⟨k.val, k.isLt⟩ rfl rfl rfl rfl rfl)
  have hb : (val_main_cst_14 (F := Ideal)) (Shape.Idx.first hu) = (⊥ : EReal) := bot_word
  rw [hb]
  exact congrArg (fun f => Finset.fold max (⊥ : EReal) f (Finset.univ : Finset (Fin 4096))) hf

/-- A logit less the largest of its row, exponentiated. -/
theorem ref_exp (a b : Fin 4) (j : Fin 2) (r k : Fin 4096) :
    val_main_v78 (F := Ideal) x0 x1 (ix5 a b j r k)
      = Ideal.exp (val_main_v71 (F := Ideal) x0 x1 (ix5 a b j r k)
          - max ⊥ (Finset.univ.fold max (⊥ : EReal) fun k : Fin 4096 => val_main_v71 (F := Ideal) x0 x1 (ix5 a b j r k))) := by
  rw [val_main_v78_apply, val_main_v77_apply, val_main_v76_apply, val_main_v75_apply, val_main_v74_apply, val_main_v73_apply,
    val_main_cst_15_apply]
  have e : idx_main_v75 (idx_main_v76 (ix5 a b j r k)) = ix4 a b j r := by
    funext q
    match q with
    | ⟨0, _⟩ => rfl
    | ⟨1, _⟩ => rfl
    | ⟨2, _⟩ => rfl
    | ⟨3, _⟩ => rfl
  rw [e]
  unfold val_main_v72
  rw [rowMax, bot_word]
  rfl

/-- The reference's softmax. -/
theorem ref_soft (a b : Fin 4) (j : Fin 2) (r k : Fin 4096) :
    val_main_v82 (F := Ideal) x0 x1 (ix5 a b j r k)
      = Ideal.div (val_main_v78 (F := Ideal) x0 x1 (ix5 a b j r k))
          (∑ n : Fin 4096, val_main_v78 (F := Ideal) x0 x1 (ix5 a b j r n)) := by
  rw [val_main_v82_apply, val_main_v81_apply, val_main_v80_apply, val_main_v79_apply, val_main_cst_16_apply]
  have e : ∀ n : Fin 4096, idx_main_v79 (idx_main_v80 (idx_main_v81 (ix5 a b j r k))) n = ix5 a b j r n :=
    fun n => ix5_of _ a b j r n rfl rfl rfl rfl rfl
  have z : (FloatOps.ofBits .f32 0x00000000#32 : Ideal .f32) = (0 : EReal) := by
    show Ideal.ofBits .f32 0x00000000#32 = _
    simp [Ideal.ofBits, Ideal.ieee]
  simp only [e]
  rw [z]
  show Ideal.div _ ((0 : EReal) + _) = _
  rw [zero_add]

/-- The difference of the two maps, the second scaled by λ. -/
theorem ref_diff (a b : Fin 4) (r k : Fin 4096) :
    val_main_v89 (F := Ideal) x0 x1 x2 (ix4 a b r k)
      = val_main_v82 (F := Ideal) x0 x1 (ix5 a b 0 r k)
        - val_main_v24 (F := Ideal) x2 ix0 * val_main_v82 (F := Ideal) x0 x1 (ix5 a b 1 r k) := by
  rw [val_main_v89_apply, val_main_v88_apply, val_main_v87_apply, val_main_v86_apply, val_main_v85_apply, val_main_v84_apply,
    val_main_v83_apply]
  have ha := a.isLt
  have hb := b.isLt
  have hr := r.isLt
  have hk := k.isLt
  have e0 : idx_main_v83 (idx_main_v84 (ix4 a b r k)) = ix5 a b 0 r k := by
    refine ix5_of _ a b 0 r k ?_ ?_ rfl ?_ ?_
    · show (((a.val * 4 + b.val) * 4096 + r.val) * 4096 + k.val) / 67108864 = a.val
      omega
    · show (((a.val * 4 + b.val) * 4096 + r.val) * 4096 + k.val) / 16777216 % 4 = b.val
      omega
    · show (((a.val * 4 + b.val) * 4096 + r.val) * 4096 + k.val) / 4096 % 4096 = r.val
      omega
    · show (((a.val * 4 + b.val) * 4096 + r.val) * 4096 + k.val) % 4096 = k.val
      omega
  have e1 : idx_main_v85 (idx_main_v86 (ix4 a b r k)) = ix5 a b 1 r k := by
    refine ix5_of _ a b 1 r k ?_ ?_ rfl ?_ ?_
    · show (((a.val * 4 + b.val) * 4096 + r.val) * 4096 + k.val) / 67108864 = a.val
      omega
    · show (((a.val * 4 + b.val) * 4096 + r.val) * 4096 + k.val) / 16777216 % 4 = b.val
      omega
    · show (((a.val * 4 + b.val) * 4096 + r.val) * 4096 + k.val) / 4096 % 4096 = r.val
      omega
    · show (((a.val * 4 + b.val) * 4096 + r.val) * 4096 + k.val) % 4096 = k.val
      omega
  rw [e0, e1]
  rw [show idx_main_v87 (ix4 a b r k) = ix0 from funext fun q => q.elim0]
  rfl

/-- A logit of the reference. -/
theorem ref_logit (a b : Fin 4) (j : Fin 2) (r k : Fin 4096) :
    val_main_v71 (F := Ideal) x0 x1 (ix5 a b j r k)
      = Ideal.div (∑ d : Fin 128, x0 (ix3 a r (qcol b j d)) * x0 (ix3 a k (kcol b j d))) (Ideal.sqrt (Ideal.ofBits .f32 1124073472#32))
        + x1 (ix2 (bkt (IntOp.subi (BitVec.ofNat 32 k.val) (BitVec.ofNat 32 r.val))) (bcol b)) := by
  have e := ref_gather x1 (ix3 r k b)
  pointwise [val_main_v71, val_main_v70, val_main_v69, val_main_v68, val_main_v67, val_main_v66, val_main_v65, val_main_v64,
    val_main_v63, val_main_cst_13, val_main_v5, val_main_v4, val_main_v3, val_main_v2, val_main_v1, val_main_v0]
  refine congrArg₂ (fun p q => Ideal.div p _ + q) (Finset.sum_congr rfl fun d _ => congrArg₂ (· * ·)
    (congrArg x0 (congrArg (ix3 _ _) (Fin.ext ?_))) (congrArg x0 (congrArg (ix3 _ _) (Fin.ext ?_)))) e
  · show 5120 + (b.val * 256 + j.val * 128 + d.val) = 5120 + b.val * 256 + j.val * 128 + d.val
    omega
  · show 5120 + (1024 + (b.val * 256 + j.val * 128 + d.val)) = 6144 + b.val * 256 + j.val * 128 + d.val
    omega

/-- The reference's λ. -/
theorem ref_lam : val_main_v24 (F := Ideal) x2 ix0 = Ideal.exp (∑ x, x2 (ix3 0 0 x) * x2 (ix3 0 1 x))
    - Ideal.exp (∑ x, x2 (ix3 0 2 x) * x2 (ix3 0 3 x)) + Ideal.ofBits .f32 1045220557#32 := by
  pointwise [val_main_v24, val_main_v23, val_main_v22, val_main_v21, val_main_v20, val_main_v19, val_main_v18, val_main_v17,
    val_main_v16, val_main_v15, val_main_v14, val_main_v13, val_main_v12, val_main_v11, val_main_v10, val_main_v9, val_main_v8,
    val_main_v7, val_main_cst, val_main_cst_0, val_main_cst_1]

/-- The reference's attention output before its norm. -/
theorem ref_out (a b : Fin 4) (r : Fin 4096) (e : Fin 256) :
    val_main_v91 (F := Ideal) x0 x1 x2 (ix4 a r b e)
      = ∑ n : Fin 4096, x0 (ix3 a n (vcol b e)) * val_main_v89 (F := Ideal) x0 x1 x2 (ix4 a b r n) := by
  have e6 : ∀ n : Fin 4096, val_main_v6 (F := Ideal) x0 (ix4 a n b e) = x0 (ix3 a n (vcol b e)) := fun n => by
    pointwise [val_main_v6, val_main_v5, val_main_v0]
    refine congrArg x0 (congrArg (ix3 _ _) (Fin.ext ?_))
    show 5120 + (2048 + (b.val * 256 + e.val)) = 7168 + b.val * 256 + e.val
    omega
  pointwise [val_main_v91, val_main_v90]
  exact Finset.sum_congr rfl fun n _ => congrArg (· * _) (e6 n)

/-- The reference's result: the attention output over the root of its mean square plus a small constant, times the gain and a constant. -/
theorem ref_result (x3 : (⟨S2x256, .f32⟩ : BufTy).Contents (Elt Ideal)) (a b : Fin 4) (r : Fin 4096) (e : Fin 256) (g : Fin 1024)
    (hg : g.val = b.val * 256 + e.val) :
    val_main_v110 (F := Ideal) x0 x1 x2 x3 (ix3 a r g)
      = val_main_v91 (F := Ideal) x0 x1 x2 (ix4 a r b e)
          * Ideal.rsqrt (Ideal.div (∑ x : Fin 256, val_main_v91 (F := Ideal) x0 x1 x2 (ix4 a r b x)
              * val_main_v91 (F := Ideal) x0 x1 x2 (ix4 a r b x)) (Ideal.ofBits .f32 1132462080#32) + Ideal.ofBits .f32 897988541#32)
          * x3 (ix2 0 e) * Ideal.ofBits .f32 1061997773#32 := by
  have he := e.isLt
  have h1 : g.val / 256 = b.val := by omega
  have h2 : g.val % 256 = e.val := by omega
  pointwise [val_main_v110, val_main_v109, val_main_v108, val_main_v107, val_main_v106, val_main_v105, val_main_v104, val_main_v103,
    val_main_v102, val_main_v101, val_main_v100, val_main_v99, val_main_v98, val_main_v97, val_main_v96, val_main_v95, val_main_v94,
    val_main_v93, val_main_v92, val_main_cst_17, val_main_cst_18, val_main_cst_19, val_main_cst_20]
  simp only [h1, h2]
end

end Cert.KernelIdeal.RefValue
-- ==== Proof.SoftmaxMath.lean ====
module

public import Idealize.ShloMosaic.Lib.Pointwise
public import Idealize.ShloMosaic.Lib.Claim

@[expose] public section

noncomputable section

open Idealize.ShloMosaic

/-! Softmax over real numbers: the form with the largest logit taken away, in either base, is the plain quotient of exponentials. -/

namespace Cert.SoftmaxMath

variable {ι κ : Type} [Fintype ι] [Fintype κ]

/-- The sum of real numbers, taken among the extended reals, is their real sum. -/
theorem sum_coe (f : ι → ℝ) : (∑ i, ((f i : ℝ) : EReal)) = ((∑ i, f i : ℝ) : EReal) := by
  classical
  induction (Finset.univ : Finset ι) using Finset.induction_on with
  | empty => simp
  | insert a s ha ih => rw [Finset.sum_insert ha, Finset.sum_insert ha, ih, EReal.coe_add]

/-- The largest of finitely many real numbers, taken from −∞, is a real number. -/
theorem max_coe [Nonempty ι] (f : ι → ℝ) : ∃ M : ℝ, (Finset.univ.fold max (⊥ : EReal) fun i => ((f i : ℝ) : EReal)) = ((M : ℝ) : EReal) := by
  have h1 : (Finset.univ.fold max (⊥ : EReal) fun i => ((f i : ℝ) : EReal)) ≠ ⊤ := by
    refine ne_of_lt ?_
    rw [Finset.fold_max_lt]
    exact ⟨bot_lt_top, fun i _ => EReal.coe_lt_top _⟩
  have h2 : (Finset.univ.fold max (⊥ : EReal) fun i => ((f i : ℝ) : EReal)) ≠ ⊥ := by
    refine ne_of_gt ?_
    rw [Finset.lt_fold_max]
    exact Or.inr ⟨Classical.arbitrary ι, Finset.mem_univ _, EReal.bot_lt_coe _⟩
  exact ⟨_, (EReal.coe_toReal h1 h2).symm⟩

/-- A quotient of real numbers by one that isn't zero. -/
theorem div_coe_coe (x y : ℝ) (hy : y ≠ 0) : Ideal.div ((x : ℝ) : EReal) ((y : ℝ) : EReal) = ((x / y : ℝ) : EReal) := by
  rw [Ideal.div_coe hy, ← EReal.coe_mul, mul_one_div]

theorem sum_exp_pos [Nonempty ι] (z : ι → ℝ) : 0 < ∑ i, Real.exp (z i) :=
  Finset.sum_pos (fun i _ => Real.exp_pos _) Finset.univ_nonempty

/-- Two to the power of a logit divided by log 2, less `M`: the exponential of the logit times a factor common to the row. -/
theorem two_pow (z M : ℝ) : Real.rpow 2 ((Real.log 2)⁻¹ * z - M) = Real.exp z * Real.exp (-(Real.log 2 * M)) := by
  have h2 : Real.log 2 ≠ 0 := (Real.log_pos one_lt_two).ne'
  show (2 : ℝ) ^ ((Real.log 2)⁻¹ * z - M) = _
  rw [Real.rpow_def_of_pos two_pos, ← Real.exp_add]
  congr 1
  field_simp
  ring

/-- The kernel's row: exponentials in base two with the row's largest logit taken away, their weighted sum divided by their sum. -/
theorem soft_kernel [Nonempty ι] (L : ι → EReal) (V : ι → EReal) (z v : ι → ℝ) (bot : EReal) (hbot : bot = ⊥)
    (hL : ∀ n, L n = (((Real.log 2)⁻¹ * z n : ℝ) : EReal)) (hV : ∀ n, V n = ((v n : ℝ) : EReal)) :
    Ideal.div (∑ n, Ideal.exp2 (L n - Finset.univ.fold max bot L) * V n) (∑ n, Ideal.exp2 (L n - Finset.univ.fold max bot L))
      = (((∑ n, Real.exp (z n) * v n) / ∑ n, Real.exp (z n) : ℝ) : EReal) := by
  subst hbot
  obtain rfl : L = fun n => (((Real.log 2)⁻¹ * z n : ℝ) : EReal) := funext hL
  obtain rfl : V = fun n => ((v n : ℝ) : EReal) := funext hV
  obtain ⟨M, hM⟩ := max_coe fun n => (Real.log 2)⁻¹ * z n
  rw [hM]
  have e : ∀ n, Ideal.exp2 ((((Real.log 2)⁻¹ * z n : ℝ) : EReal) - ((M : ℝ) : EReal))
      = ((Real.exp (z n) * Real.exp (-(Real.log 2 * M)) : ℝ) : EReal) := fun n => by
    rw [← EReal.coe_sub, ← two_pow]
    rfl
  simp only [e, ← EReal.coe_mul]
  rw [sum_coe, sum_coe]
  have hc : Real.exp (-(Real.log 2 * M)) ≠ 0 := (Real.exp_pos _).ne'
  have hs := sum_exp_pos z
  have e1 : ∑ n, Real.exp (z n) * Real.exp (-(Real.log 2 * M)) = (∑ n, Real.exp (z n)) * Real.exp (-(Real.log 2 * M)) :=
    (Finset.sum_mul _ _ _).symm
  have e2 : ∑ n, Real.exp (z n) * Real.exp (-(Real.log 2 * M)) * v n
      = (∑ n, Real.exp (z n) * v n) * Real.exp (-(Real.log 2 * M)) := by
    rw [Finset.sum_mul]
    exact Finset.sum_congr rfl fun n _ => by ring
  rw [e1, e2, div_coe_coe _ _ (mul_ne_zero hs.ne' hc), mul_div_mul_right _ _ hc]

/-- The reference's row: exponentials with the row's largest logit taken away, each divided by their sum. -/
theorem soft_ref [Nonempty ι] (L : ι → EReal) (z : ι → ℝ) (hL : ∀ n, L n = ((z n : ℝ) : EReal)) (k : ι) :
    Ideal.div (Ideal.exp (L k - max ⊥ (Finset.univ.fold max ⊥ L))) (∑ n, Ideal.exp (L n - max ⊥ (Finset.univ.fold max ⊥ L)))
      = ((Real.exp (z k) / ∑ n, Real.exp (z n) : ℝ) : EReal) := by
  obtain rfl : L = fun n => ((z n : ℝ) : EReal) := funext hL
  obtain ⟨M, hM⟩ := max_coe z
  rw [hM, max_eq_right bot_le]
  have e : ∀ n, Ideal.exp (((z n : ℝ) : EReal) - ((M : ℝ) : EReal)) = ((Real.exp (z n) * Real.exp (-M) : ℝ) : EReal) := fun n => by
    rw [← EReal.coe_sub, ← Real.exp_add, ← sub_eq_add_neg]
    rfl
  simp only [e]
  rw [sum_coe]
  have hc : Real.exp (-M) ≠ 0 := (Real.exp_pos _).ne'
  rw [← Finset.sum_mul, div_coe_coe _ _ (mul_ne_zero (sum_exp_pos z).ne' hc), mul_div_mul_right _ _ hc]

/-- The weighted sums of two maps, the second scaled, are the weighted sum of the maps' scaled difference. -/
theorem diff_sum (z w v : ι → ℝ) (c : ℝ) :
    ((∑ n, Real.exp (z n) * v n) / ∑ n, Real.exp (z n)) - c * ((∑ n, Real.exp (w n) * v n) / ∑ n, Real.exp (w n))
      = ∑ n, v n * (Real.exp (z n) / (∑ n, Real.exp (z n)) - c * (Real.exp (w n) / ∑ n, Real.exp (w n))) := by
  rw [Finset.sum_div, Finset.sum_div, Finset.mul_sum, ← Finset.sum_sub_distrib]
  exact Finset.sum_congr rfl fun n _ => by ring

/-- A number that is neither infinity is a real one. -/
theorem real_of {x : EReal} (h1 : x ≠ ⊤) (h2 : x ≠ ⊥) : x = ((x.toReal : ℝ) : EReal) := (EReal.coe_toReal h1 h2).symm

/-- The kernel's logit, from a query scaled before the product and a bias scaled on its own: the reference's logit over log 2. -/
theorem logit_kernel (q k : κ → ℝ) (b : ℝ) :
    (∑ d, ((q d : ℝ) : EReal) * (((Real.sqrt 128)⁻¹ * (Real.log 2)⁻¹ : ℝ) : EReal) * ((k d : ℝ) : EReal))
        + ((b : ℝ) : EReal) * (((Real.log 2)⁻¹ : ℝ) : EReal)
      = (((Real.log 2)⁻¹ * ((∑ d, q d * k d) / Real.sqrt 128 + b) : ℝ) : EReal) := by
  simp only [← EReal.coe_mul]
  rw [sum_coe, ← EReal.coe_add]
  congr 1
  rw [mul_add, div_eq_mul_inv, mul_comm b, Finset.sum_mul, Finset.mul_sum]
  congr 1
  exact Finset.sum_congr rfl fun d _ => by ring

/-- The word for 128, read at `Ideal`. -/
theorem ofBits_128 : Ideal.ofBits .f32 1124073472#32 = ((128 : ℝ) : EReal) := by
  simp [Ideal.ofBits, Ideal.ieee, -EReal.coe_mul]; norm_num

/-- The reference's logit. -/
theorem logit_ref (q k : κ → ℝ) (b : ℝ) :
    Ideal.div (∑ d, ((q d : ℝ) : EReal) * ((k d : ℝ) : EReal)) (Ideal.sqrt (Ideal.ofBits .f32 1124073472#32)) + ((b : ℝ) : EReal)
      = (((∑ d, q d * k d) / Real.sqrt 128 + b : ℝ) : EReal) := by
  have h : Real.sqrt 128 ≠ 0 := by positivity
  rw [ofBits_128, Ideal.sqrt_coe, if_neg (by norm_num)]
  simp only [← EReal.coe_mul]
  rw [sum_coe, div_coe_coe _ _ h, ← EReal.coe_add]

end Cert.SoftmaxMath
-- ==== Proof.DiffReal.lean ====
module

public import proofs.«01_k».proof.Defs
public import proofs.«01_k».proof.Proof.Gen.Kernel.Frame
public import proofs.«01_k».proof.Proof.Gen.KernelIdeal.Value
public import proofs.«01_k».proof.Proof.DiffReads
public import proofs.«01_k».proof.Proof.DiffRef
public import proofs.«01_k».proof.Proof.SoftmaxMath
public import proofs.«01_k».proof.Proof.Gen.Pre_finite_values
public import Idealize.ShloMosaic.Lib.Pipeline.ValueKit
public import Idealize.ShloMosaic.Lib.Pipeline.ValueKit.Held
public import Idealize.ShloMosaic.Lib.Pipeline.Covers
public import Idealize.ShloMosaic.Lib.Pipeline.ReadBack
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.KernelIdeal.RefValue

open Cert.KernelIdeal Cert.KernelIdeal.Gen

variable (m : (ℓ : Loc nD τ sig) → Buf (Elt Ideal) ℓ)

/-! Under the precondition every logit, weight and value is a real number: the kernel's and the reference's attention output are
    then one and the same real number. -/

open Cert.ReferenceIdeal.Read Cert.SoftmaxMath

section
variable (x0 : (⟨S4x4096x8192, .f32⟩ : BufTy).Contents (Elt Ideal)) (x1 : (⟨S32x16, .f32⟩ : BufTy).Contents (Elt Ideal))
  (x2 : (⟨S2x4x128, .f32⟩ : BufTy).Contents (Elt Ideal)) (x3 : (⟨S2x256, .f32⟩ : BufTy).Contents (Elt Ideal))

/-- What the precondition says: queries, keys and values, the biases of the four heads and the λ vectors are real numbers. -/
structure Reals : Prop where
  proj : ∀ (a : Fin 4) (r : Fin 4096) (c : Fin 8192), 5120 ≤ c.val → x0 (ix3 a r c) = ((EReal.toReal (x0 (ix3 a r c)) : ℝ) : EReal)
  bias : ∀ (k : Fin 32) (h : Fin 4), x1 (ix2 k (bcol h)) = ((EReal.toReal (x1 (ix2 k (bcol h))) : ℝ) : EReal)
  lam : ∀ (i : Fin 4) (d : Fin 128), x2 (ix3 0 i d) = ((EReal.toReal (x2 (ix3 0 i d)) : ℝ) : EReal)

/-- A number whose absolute value compares below +∞ is a real one. -/
theorem real_of_abs (x : EReal) (h : BitVec.ofBool (decide ((FloatOps.absf (F := Ideal) (φ := .f32) x : EReal) < Ideal.ofBits .f32 2139095040#32)) = 1#1) :
    x = ((x.toReal : ℝ) : EReal) := by
  have ht : Ideal.ofBits .f32 2139095040#32 = (⊤ : EReal) := by simp [Ideal.ofBits, Ideal.ieee]
  have h' : max x (-x) < (⊤ : EReal) := by
    rw [ht] at h
    by_contra hn
    have : decide ((FloatOps.absf (F := Ideal) (φ := .f32) x : EReal) < (⊤ : EReal)) = false := decide_eq_false hn
    rw [this] at h
    exact absurd h (by decide)
  rw [max_lt_iff] at h'
  exact real_of h'.1.ne (fun e => by rw [e] at h'; exact absurd h'.2 (by simp))

/-- The precondition, read. -/
theorem reals_of (h : (Cert.Pre_finite_values.fn (F := Ideal) x0 x1 x2 x3).1 = (fun _ => 1#1)
    ∧ (Cert.Pre_finite_values.fn (F := Ideal) x0 x1 x2 x3).2.1 = (fun _ => 1#1)
    ∧ (Cert.Pre_finite_values.fn (F := Ideal) x0 x1 x2 x3).2.2 = (fun _ => 1#1)) : Reals x0 x1 x2 := by
  simp only [Cert.Pre_finite_values.fn] at h
  refine ⟨fun a r c hc => ?_, fun k b => ?_, fun i d => ?_⟩
  · have h0 := congrFun h.1 (ix3 a r ⟨c.val - 5120, by omega⟩)
    pointwise at h0
    have e : (⟨5120 + (c.val - 5120), by omega⟩ : Fin 8192) = c := Fin.ext (by show 5120 + (c.val - 5120) = c.val; omega)
    rw [← e]
    exact real_of_abs _ h0
  · have h1 := congrFun h.2.1 (ix2 k b)
    pointwise at h1
    exact real_of_abs _ h1
  · have h2 := congrFun h.2.2 (ix2 i d)
    pointwise at h2
    exact real_of_abs _ h2

/-- The logit of query row `r` and key `n`, as a real number. -/
def zR (a b : Fin 4) (j : Fin 2) (r n : Fin 4096) : ℝ :=
  (∑ d : Fin 128, EReal.toReal (x0 (ix3 a r (qcol b j d))) * EReal.toReal (x0 (ix3 a n (kcol b j d)))) / Real.sqrt 128
    + EReal.toReal (x1 (ix2 (bkt (IntOp.subi (BitVec.ofNat 32 n.val) (BitVec.ofNat 32 r.val))) (bcol b)))

/-- The weight of key `n`, as a real number. -/
def pR (a b : Fin 4) (j : Fin 2) (r n : Fin 4096) : ℝ :=
  Real.exp (zR x0 x1 a b j r n) / ∑ n, Real.exp (zR x0 x1 a b j r n)

/-- λ in the form both programs compute. -/
abbrev lamE : EReal := Ideal.exp (∑ x, x2 (ix3 0 0 x) * x2 (ix3 0 1 x)) - Ideal.exp (∑ x, x2 (ix3 0 2 x) * x2 (ix3 0 3 x))
  + Ideal.ofBits .f32 1045220557#32

theorem exp_real (f : Fin 128 → EReal) (hf : ∀ d, f d = ((EReal.toReal (f d) : ℝ) : EReal)) (g : Fin 128 → EReal)
    (hg : ∀ d, g d = ((EReal.toReal (g d) : ℝ) : EReal)) : ∃ v : ℝ, Ideal.exp (∑ d, f d * g d) = ((v : ℝ) : EReal) := by
  have e : ∀ d, f d * g d = ((EReal.toReal (f d) * EReal.toReal (g d) : ℝ) : EReal) := fun d => by
    rw [EReal.coe_mul, ← hf d, ← hg d]
  simp only [e]
  rw [sum_coe]
  exact ⟨_, rfl⟩

/-- λ is a real number. -/
theorem lam_real (H : Reals x0 x1 x2) : ∃ l : ℝ, lamE x2 = ((l : ℝ) : EReal) := by
  obtain ⟨u, hu⟩ := exp_real (fun d => x2 (ix3 0 0 d)) (H.lam 0) (fun d => x2 (ix3 0 1 d)) (H.lam 1)
  obtain ⟨v, hv⟩ := exp_real (fun d => x2 (ix3 0 2 d)) (H.lam 2) (fun d => x2 (ix3 0 3 d)) (H.lam 3)
  have hc : ∃ w : ℝ, Ideal.ofBits .f32 1045220557#32 = ((w : ℝ) : EReal) := by
    refine ⟨13421773 / 67108864, ?_⟩
    simp [Ideal.ofBits, Ideal.ieee, -EReal.coe_mul]; norm_num
  obtain ⟨w, hw⟩ := hc
  refine ⟨u - v + w, ?_⟩
  unfold lamE
  rw [EReal.coe_add, EReal.coe_sub, ← hu, ← hv, ← hw]

/-- A logit of the reference, under the precondition. -/
theorem ref_logit_real (H : Reals x0 x1 x2) (a b : Fin 4) (j : Fin 2) (r n : Fin 4096) :
    val_main_v71 (F := Ideal) x0 x1 (ix5 a b j r n) = ((zR x0 x1 a b j r n : ℝ) : EReal) := by
  rw [ref_logit]
  rw [H.bias, Finset.sum_congr rfl fun d _ => congrArg₂ (· * ·)
    (H.proj a r (qcol b j d) (by show 5120 ≤ 5120 + b.val * 256 + j.val * 128 + d.val; omega))
    (H.proj a n (kcol b j d) (by show 5120 ≤ 6144 + b.val * 256 + j.val * 128 + d.val; omega))]
  exact logit_ref _ _ _

/-- A weight of the reference. -/
theorem ref_soft_real (H : Reals x0 x1 x2) (a b : Fin 4) (j : Fin 2) (r n : Fin 4096) :
    val_main_v82 (F := Ideal) x0 x1 (ix5 a b j r n) = ((pR x0 x1 a b j r n : ℝ) : EReal) := by
  rw [ref_soft]
  simp only [ref_exp]
  exact soft_ref (fun k => val_main_v71 (F := Ideal) x0 x1 (ix5 a b j r k)) (zR x0 x1 a b j r) (ref_logit_real x0 x1 x2 H a b j r) n

/-- The reference's attention output. -/
theorem ref_out_real (H : Reals x0 x1 x2) (l : ℝ) (hl : lamE x2 = ((l : ℝ) : EReal)) (a b : Fin 4) (r : Fin 4096) (e : Fin 256) :
    val_main_v91 (F := Ideal) x0 x1 x2 (ix4 a r b e)
      = ((∑ n, EReal.toReal (x0 (ix3 a n (vcol b e))) * (pR x0 x1 a b 0 r n - l * pR x0 x1 a b 1 r n) : ℝ) : EReal) := by
  rw [ref_out, ← sum_coe]
  refine Finset.sum_congr rfl fun n _ => ?_
  rw [ref_diff, ref_lam, ref_soft_real x0 x1 x2 H, ref_soft_real x0 x1 x2 H]
  rw [H.proj a n (vcol b e) (by show 5120 ≤ 7168 + b.val * 256 + e.val; omega)]
  refine (congrArg (fun z => _ * (_ - z * _)) hl).trans ?_
  rw [← EReal.coe_mul, ← EReal.coe_sub, ← EReal.coe_mul, EReal.toReal_coe]

/-- The two named constants, at the values the table gives them. -/
theorem named_log2e : (Named.named (F := Ideal) κ "log2e" (φ := .f32) 1069066811#32 : EReal) = (((Real.log 2)⁻¹ : ℝ) : EReal) :=
  IdealRules.named_const.ideal_named_scalar _ _ _ _ rfl
theorem named_scale : (Named.named (F := Ideal) κ "scale_log2e" (φ := .f32) 1040356334#32 : EReal)
    = (((Real.sqrt 128)⁻¹ * (Real.log 2)⁻¹ : ℝ) : EReal) :=
  IdealRules.named_const.ideal_named_scalar _ _ _ _ rfl

/-- A logit of the kernel, under the precondition. -/
theorem ker_logit_real (H : Reals x0 x1 x2) (a b : Fin 4) (j : Fin 2) (r n : Fin 4096) :
    (∑ d : Fin 128, x0 (ix3 a r (qcol b j d)) * (Named.named (F := Ideal) κ "scale_log2e" (φ := .f32) 1040356334#32 : EReal)
        * x0 (ix3 a n (kcol b j d)))
      + x1 (ix2 (bkt (IntOp.subi (BitVec.ofNat 32 n.val) (BitVec.ofNat 32 r.val))) (bcol b))
        * (Named.named (F := Ideal) κ "log2e" (φ := .f32) 1069066811#32 : EReal)
      = (((Real.log 2)⁻¹ * zR x0 x1 a b j r n : ℝ) : EReal) := by
  rw [named_log2e, named_scale]
  rw [H.bias, Finset.sum_congr rfl fun d _ => congrArg₂ (fun p q => p * _ * q)
    (H.proj a r (qcol b j d) (by show 5120 ≤ 5120 + b.val * 256 + j.val * 128 + d.val; omega))
    (H.proj a n (kcol b j d) (by show 5120 ≤ 6144 + b.val * 256 + j.val * 128 + d.val; omega))]
  exact logit_kernel _ _ _

/-- The kernel's attention output, from its two maps' rows of logits and the values, is the reference's. -/
theorem ker_out (H : Reals x0 x1 x2) (a b : Fin 4) (r : Fin 4096) (e : Fin 256) (L0 L1 V : Fin 4096 → EReal) (bot : EReal)
    (hbot : bot = ⊥) (hL0 : ∀ n, L0 n = (((Real.log 2)⁻¹ * zR x0 x1 a b 0 r n : ℝ) : EReal))
    (hL1 : ∀ n, L1 n = (((Real.log 2)⁻¹ * zR x0 x1 a b 1 r n : ℝ) : EReal)) (hV : ∀ n, V n = x0 (ix3 a n (vcol b e))) :
    Ideal.div (∑ n, Ideal.exp2 (L0 n - Finset.univ.fold max bot L0) * V n) (∑ n, Ideal.exp2 (L0 n - Finset.univ.fold max bot L0))
      - lamE x2
        * Ideal.div (∑ n, Ideal.exp2 (L1 n - Finset.univ.fold max bot L1) * V n) (∑ n, Ideal.exp2 (L1 n - Finset.univ.fold max bot L1))
      = val_main_v91 (F := Ideal) x0 x1 x2 (ix4 a r b e) := by
  obtain ⟨l, hl⟩ := lam_real x0 x1 x2 H
  have hV' : ∀ n, V n = ((EReal.toReal (x0 (ix3 a n (vcol b e))) : ℝ) : EReal) := fun n =>
    (hV n).trans (H.proj a n (vcol b e) (by show 5120 ≤ 7168 + b.val * 256 + e.val; omega))
  rw [ref_out_real x0 x1 x2 H l hl, soft_kernel L0 V _ _ bot hbot hL0 hV', soft_kernel L1 V _ _ bot hbot hL1 hV', hl,
    ← EReal.coe_mul, ← EReal.coe_sub]
  exact congrArg _ (diff_sum _ _ _ l)
end

end Cert.KernelIdeal.RefValue
-- ==== Proof.DiffCore.lean ====
module

public import proofs.«01_k».proof.Defs
public import proofs.«01_k».proof.Proof.Gen.Kernel.Frame
public import proofs.«01_k».proof.Proof.Gen.KernelIdeal.Value
public import proofs.«01_k».proof.Proof.DiffReal
public import Idealize.ShloMosaic.Lib.Pipeline.ValueKit
public import Idealize.ShloMosaic.Lib.Pipeline.ValueKit.Held
public import Idealize.ShloMosaic.Lib.Pipeline.Covers
public import Idealize.ShloMosaic.Lib.Pipeline.ReadBack
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.KernelIdeal.RefValue

open Cert.KernelIdeal Cert.KernelIdeal.Gen

variable (m : (ℓ : Loc nD τ sig) → Buf (Elt Ideal) ℓ)

/-! What a grid point of the attention kernel stores, from the blocks it reads. -/

open Cert.ReferenceIdeal.Read Cert.SoftmaxMath

/-- The kernel's logits of row `i` of a query block: scaled products plus a bias. -/
abbrev Lg (B : FVec Ideal S256x4096 .f32) (Q : FVec Ideal S1x1x256x128 .bf16) (K : FVec Ideal S1x1x4096x128 .bf16) (i : Fin 256)
    (n : Fin 4096) : EReal :=
  (∑ d : Fin 128, Q (ix4 0 0 i d) * (Named.named (F := Ideal) κ "scale_log2e" (φ := .f32) 1040356334#32 : EReal) * K (ix4 0 0 n d))
    + B (ix2 i n)

/-- A row of logits' exponentials in base two, weighted by the values and divided by their sum. -/
abbrev Soft (L : Fin 4096 → EReal) (V : Fin 4096 → EReal) : EReal :=
  Ideal.div (∑ n, Ideal.exp2 (L n - Finset.univ.fold max (Ideal.ofBits .f32 4286578688#32) L) * V n)
    (∑ n, Ideal.exp2 (L n - Finset.univ.fold max (Ideal.ofBits .f32 4286578688#32) L))

theorem pay8_apply (B : FVec Ideal S256x4096 .f32) (Q : FVec Ideal S1x1x256x128 .bf16) (K : FVec Ideal S1x1x4096x128 .bf16)
    (V : FVec Ideal S4096x256 .bf16) (y : S256x256.Idx) :
    k0_pay8 (F := Ideal) B Q K V y = Soft (Lg B Q K (y 0)) (fun n => V (ix2 n (y 1))) := by
  pointwise [k0_pay8]
  rfl

theorem pay7_apply (A0 A1 : FVec Ideal S1x128x4096 .f32) (Q : FVec Ideal S1x1x256x128 .bf16) (K : FVec Ideal S1x1x4096x128 .bf16)
    (V : FVec Ideal S4096x256 .bf16) (y : S256x256.Idx) :
    k0_pay7 (F := Ideal) (k0_pay5 A0 A1 Q K) (k0_pay6 A0 A1 Q K) V y = Soft (Lg (k0_pay4 A0 A1) Q K (y 0)) (fun n => V (ix2 n (y 1))) := by
  pointwise [k0_pay7, k0_pay6, k0_pay5]
  rfl

/-- The bias of a query block: two strips of 128 rows each, in the units of the base-two exponential. -/
theorem pay4_apply (A0 A1 : FVec Ideal S1x128x4096 .f32) (i : Fin 256) (n : Fin 4096) :
    k0_pay4 (F := Ideal) A0 A1 (ix2 i n)
      = (if h : i.val < 128 then A0 (ix3 0 ⟨i.val, h⟩ n) else A1 (ix3 0 ⟨i.val - 128, by omega⟩ n))
        * (Named.named (F := Ideal) κ "log2e" (φ := .f32) 1069066811#32 : EReal) := by
  pointwise [k0_pay4]

theorem pay10_apply (A : FVec Ideal S4x128 .f32) (y : S1x1.Idx) :
    k0_pay10 (F := Ideal) A y = Ideal.exp (∑ x, A (ix2 0 x) * A (ix2 1 x)) := by
  pointwise [k0_pay10, k0_pay9]

theorem pay11_apply (A : FVec Ideal S4x128 .f32) (x : Fin 128) :
    k0_pay11 (F := Ideal) A (ix2 0 x) = A (ix2 2 x) * A (ix2 3 x) := by
  pointwise [k0_pay11, k0_pay9]

/-- The stored block: the two maps' difference over the root of its mean square plus a small constant, times the gain and a constant. -/
theorem pay1_apply (A B : FVec Ideal S256x256 .f32) (C : FVec Ideal S1x1 .f32) (D : FVec Ideal S1x128 .f32) (E : FVec Ideal S1x256 .f32)
    (i : Fin 256) (e : Fin 256) (o : Fin 256 → EReal)
    (ho : ∀ x, A (ix2 i x) - (C (ix2 0 0) - Ideal.exp (∑ d : Fin 128, D (ix2 0 d)) + Ideal.ofBits .f32 1045220557#32) * B (ix2 i x) = o x) :
    k0_pay1 (F := Ideal) A B C D E (ix3 0 i e)
      = o e * Ideal.rsqrt (Ideal.div (∑ x : Fin 256, o x * o x) (Ideal.ofBits .f32 1132462080#32) + Ideal.ofBits .f32 897988541#32)
          * E (ix2 0 e) * Ideal.ofBits .f32 1061997773#32 := by
  pointwise [k0_pay1]
  simp only [ho]

/-- What a point stores is the reference's number, when the blocks it reads hold what they should. -/
theorem core (x0 : (⟨S4x4096x8192, .f32⟩ : BufTy).Contents (Elt Ideal)) (x1 : (⟨S32x16, .f32⟩ : BufTy).Contents (Elt Ideal))
    (x2 : (⟨S2x4x128, .f32⟩ : BufTy).Contents (Elt Ideal)) (x3 : (⟨S2x256, .f32⟩ : BufTy).Contents (Elt Ideal)) (H : Reals x0 x1 x2)
    (a b : Fin 4) (s : Fin 16) (A0 A1 : FVec Ideal S1x128x4096 .f32) (Q0 Q1 : FVec Ideal S1x1x256x128 .bf16)
    (K0 K1 : FVec Ideal S1x1x4096x128 .bf16) (V : FVec Ideal S4096x256 .bf16) (W : FVec Ideal S4x128 .f32) (G : FVec Ideal S1x256 .f32)
    (hQ0 : ∀ (i : Fin 256) d (r : Fin 4096), r.val = s.val * 256 + i.val → Q0 (ix4 0 0 i d) = x0 (ix3 a r (qcol b 0 d)))
    (hQ1 : ∀ (i : Fin 256) d (r : Fin 4096), r.val = s.val * 256 + i.val → Q1 (ix4 0 0 i d) = x0 (ix3 a r (qcol b 1 d)))
    (hK0 : ∀ n d, K0 (ix4 0 0 n d) = x0 (ix3 a n (kcol b 0 d))) (hK1 : ∀ n d, K1 (ix4 0 0 n d) = x0 (ix3 a n (kcol b 1 d)))
    (hA0 : ∀ (i : Fin 128) n (r : Fin 4096), r.val = s.val * 256 + i.val →
      A0 (ix3 0 i n) = x1 (ix2 (bkt (IntOp.subi (BitVec.ofNat 32 n.val) (BitVec.ofNat 32 r.val))) (bcol b)))
    (hA1 : ∀ (i : Fin 128) n (r : Fin 4096), r.val = s.val * 256 + 128 + i.val →
      A1 (ix3 0 i n) = x1 (ix2 (bkt (IntOp.subi (BitVec.ofNat 32 n.val) (BitVec.ofNat 32 r.val))) (bcol b)))
    (hV : ∀ n e, V (ix2 n e) = x0 (ix3 a n (vcol b e))) (hW : ∀ i d, W (ix2 i d) = x2 (ix3 0 i d)) (hG : ∀ e, G (ix2 0 e) = x3 (ix2 0 e))
    (i e : Fin 256) (r : Fin 4096) (hr : r.val = s.val * 256 + i.val) (g : Fin 1024) (hg : g.val = b.val * 256 + e.val) :
    k0_pay1 (F := Ideal) (k0_pay7 (k0_pay5 A0 A1 Q0 K0) (k0_pay6 A0 A1 Q0 K0) V) (k0_pay8 (k0_pay4 A0 A1) Q1 K1 V) (k0_pay10 W) (k0_pay11 W) G
      (ix3 0 i e) = val_main_v110 (F := Ideal) x0 x1 x2 x3 (ix3 a r g) := by
  have hB : ∀ n, k0_pay4 (F := Ideal) A0 A1 (ix2 i n)
      = x1 (ix2 (bkt (IntOp.subi (BitVec.ofNat 32 n.val) (BitVec.ofNat 32 r.val))) (bcol b))
        * (Named.named (F := Ideal) κ "log2e" (φ := .f32) 1069066811#32 : EReal) := fun n => by
    rw [pay4_apply]
    by_cases h : i.val < 128
    · rw [dif_pos h, hA0 ⟨i.val, h⟩ n r hr]
    · rw [dif_neg h, hA1 ⟨i.val - 128, by omega⟩ n r (by show r.val = s.val * 256 + 128 + (i.val - 128); omega)]
  have hL0 : ∀ n, Lg (k0_pay4 A0 A1) Q0 K0 i n = (((Real.log 2)⁻¹ * zR x0 x1 a b 0 r n : ℝ) : EReal) := fun n => by
    rw [← ker_logit_real x0 x1 x2 H a b 0 r n]
    unfold Lg
    rw [hB]
    simp only [hQ0 i _ r hr, hK0]
  have hL1 : ∀ n, Lg (k0_pay4 A0 A1) Q1 K1 i n = (((Real.log 2)⁻¹ * zR x0 x1 a b 1 r n : ℝ) : EReal) := fun n => by
    rw [← ker_logit_real x0 x1 x2 H a b 1 r n]
    unfold Lg
    rw [hB]
    simp only [hQ1 i _ r hr, hK1]
  rw [ref_result x0 x1 x2 x3 a b r e g hg, ← hG]
  refine pay1_apply _ _ _ _ _ i e (fun x => val_main_v91 (F := Ideal) x0 x1 x2 (ix4 a r b x)) fun x => ?_
  rw [pay10_apply, pay8_apply, pay7_apply]
  simp only [pay11_apply, hW]
  exact ker_out x0 x1 x2 H a b r x _ _ (fun n => V (ix2 n x)) _ bot_word hL0 hL1 (fun n => hV n x)

end Cert.KernelIdeal.RefValue
-- ==== Proof.DiffAttn.lean ====
module

public import proofs.«01_k».proof.Defs
public import proofs.«01_k».proof.Proof.Gen.Kernel.Frame
public import proofs.«01_k».proof.Proof.Gen.KernelIdeal.Value
public import proofs.«01_k».proof.Proof.DiffCore
public import Idealize.ShloMosaic.Lib.Pipeline.ValueKit
public import Idealize.ShloMosaic.Lib.Pipeline.ValueKit.Held
public import Idealize.ShloMosaic.Lib.Pipeline.Covers
public import Idealize.ShloMosaic.Lib.Pipeline.ReadBack
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.KernelIdeal.RefValue

open Cert.KernelIdeal Cert.KernelIdeal.Gen

variable (m : (ℓ : Loc nD τ sig) → Buf (Elt Ideal) ℓ)

/-! From the blocks a point reads to the whole result array. -/

open Cert.ReferenceIdeal.Read

/-- The key's place less the query's place, as the strip stores it: row `i` of a strip read at column `n + 3968 - 256 s - 128 u`
    holds the entry of query row `256 s + 128 u + i`. -/
theorem strip_word (n r i k : ℕ) (hn : n < 4096) (hr : r < 4096) (hi : i < 128) (h : k + r = n + 3968 + i) :
    IntOp.subi (IntOp.subi (BitVec.ofNat 32 k) (BitVec.ofNat 32 i)) 3968#32 = IntOp.subi (BitVec.ofNat 32 n) (BitVec.ofNat 32 r) := by
  show BitVec.ofNat 32 k - BitVec.ofNat 32 i - 3968#32 = BitVec.ofNat 32 n - BitVec.ofNat 32 r
  have e : BitVec.ofNat 32 k + BitVec.ofNat 32 r = BitVec.ofNat 32 n + 3968#32 + BitVec.ofNat 32 i := by
    rw [show (3968#32 : BitVec 32) = BitVec.ofNat 32 3968 from rfl, ← BitVec.ofNat_add, ← BitVec.ofNat_add, ← BitVec.ofNat_add, h]
  have e2 : BitVec.ofNat 32 k = BitVec.ofNat 32 n + 3968#32 + BitVec.ofNat 32 i - BitVec.ofNat 32 r := by
    rw [← e]; exact (BitVec.add_sub_cancel _ _).symm
  rw [e2]
  generalize BitVec.ofNat 32 n = N
  generalize BitVec.ofNat 32 i = I
  generalize BitVec.ofNat 32 r = R
  bv_omega

/-- Where the two strip loads of a point start. -/
theorem off1 : ∀ t : Fin cfg0.N, k0_off1 (grid0.coords t) 3968#32 = ![0, 0, 3968 - t.val % 16 * 256]
    ∧ k0_off1 (grid0.coords t) 3840#32 = ![0, 0, 3840 - t.val % 16 * 256] :=
  (by decide +kernel : ∀ t : Fin grid0.N, _)

/-- The head of a point. -/
abbrev hd (t : Fin cfg0.N) : Fin 4 := ⟨t.val / 64, by have := (idx t).2.2.2.2.2.2.2; omega⟩
/-- The batch of a point. -/
abbrev bt (t : Fin cfg0.N) : Fin 4 := ⟨t.val / 16 % 4, by omega⟩

/-- The number a point's values block holds at a place, in the terms of the scratch. -/
theorem vals (c : Dev nD) (t : Fin cfg0.N) (y : S1x2x4096x128.Idx) (n : Fin 4096) (e : Fin 256) (hn : n.val = (y 2).val)
    (he : e.val = (y 1).val * 128 + (y 3).val) :
    iblk m c 2 t y = m ((c : Thread nD τ).loc main_arg0) (ix3 (bt t) n (vcol (hd t) e)) :=
  rd2 m c t y _ _ _ rfl hn (by show 7168 + t.val / 64 * 256 + e.val = 7168 + t.val / 64 * 256 + (y 1).val * 128 + (y 3).val; omega)

/-- What the scratch holds at a point that fills it: the values of the point's batch and head. -/
theorem scratchA (c : Dev nD) (t : Fin cfg0.N) (h : t.val % 16 = 0) (n : Fin 4096) (e : Fin 256) :
    (outsAt0 m c t.val t.isLt).2 (ix2 n e) = m ((c : Thread nD τ).loc main_arg0) (ix3 (bt t) n (vcol (hd t) e)) := by
  rw [outsAt0_A m c t h]; frame_out
  canon_tiles x hh
  · pointwise [k0_pay3]
    exact vals m c t _ n e hh0 (by rw [show e.val = 128 + (x 1).val from hh1]; rfl)
  · pointwise [k0_pay2]
    exact vals m c t _ n e hh0 (by rw [show e.val = (x 1).val from hh1]; exact (Nat.zero_add _).symm)

/-- What the scratch holds at every point: filled at the first of a batch and head's sixteen, it stands for the rest. -/
theorem scratch (c : Dev nD) (t : Fin cfg0.N) (n : Fin 4096) (e : Fin 256) :
    (outsAt0 m c t.val t.isLt).2 (ix2 n e) = m ((c : Thread nD τ).loc main_arg0) (ix3 (bt t) n (vcol (hd t) e)) := by
  have key := Pipeline.eq_of_write_hold_apply (fun k hk => (outsAt0 m c k hk).2) 16
    (fun t i => m ((c : Thread nD τ).loc main_arg0) (ix3 (bt t) (i 0) (vcol (hd t) (i 1))))
    (fun t h0 i => by
      obtain ⟨n, e, rfl⟩ : ∃ n e, i = ix2 n e := ⟨i 0, i 1, by funext a; match a with | ⟨0, _⟩ => rfl | ⟨1, _⟩ => rfl⟩
      exact scratchA m c t h0 n e)
    (fun t h0 i => by
      show (outsAt0 m c t.val t.isLt).2 i = _
      rw [outsAt0_B m c t h0]
      rfl) t (ix2 n e)
  refine key.trans ?_
  have e1 : bt ⟨16 * (t.val / 16), Pipeline.run_start_lt t⟩ = bt t := Fin.ext (by
    show 16 * (t.val / 16) / 16 % 4 = t.val / 16 % 4
    omega)
  have e2 : hd ⟨16 * (t.val / 16), Pipeline.run_start_lt t⟩ = hd t := Fin.ext (by
    show 16 * (t.val / 16) / 64 = t.val / 64
    omega)
  show m ((c : Thread nD τ).loc main_arg0) (ix3 (bt ⟨16 * (t.val / 16), _⟩) n (vcol (hd ⟨16 * (t.val / 16), _⟩) e)) = _
  rw [e1, e2]

/-- The reference's term over the kernel's arguments. -/
abbrev REF (X0 : FVec Ideal S4x4096x8192 .f32) (X1 : FVec Ideal S32x16 .f32) (X2 : FVec Ideal S2x4x128 .f32)
    (X3 : FVec Ideal S2x256 .f32) : FVec Ideal S4x4096x1024 .f32 := Cert.ReferenceIdeal.Read.val_main_v110 (F := Ideal) X0 X1 X2 X3

/-- The four arguments on a device. -/
abbrev A0 (c : Dev nD) := m ((c : Thread nD τ).loc main_arg0)
abbrev A1 (c : Dev nD) := m ((c : Thread nD τ).loc main_arg1)
abbrev A2 (c : Dev nD) := m ((c : Thread nD τ).loc main_arg2)
abbrev A3 (c : Dev nD) := m ((c : Thread nD τ).loc main_arg3)

/-- A strip's entry at the place a point reads it. -/
theorem strip_at (c : Dev nD) (t : Fin cfg0.N) (y : S1x128x8064.Idx) (n r : Fin 4096)
    (h : (y 2).val + r.val = n.val + 3968 + (y 1).val) :
    iblk m c 3 t y = A1 m c (ix2 (bkt (IntOp.subi (BitVec.ofNat 32 n.val) (BitVec.ofNat 32 r.val))) (bcol (hd t))) := by
  rw [rd3 m c t y (bcol (hd t)) rfl, strip_word n.val r.val (y 1).val (y 2).val n.isLt r.isLt (y 1).isLt h]

/-- The queries of map 0 a point loads. -/
theorem ldQ0 (c : Dev nD) (t : Fin cfg0.N) (i : Fin 256) (d : Fin 128) (r : Fin 4096) (hr : r.val = t.val % 16 * 256 + i.val) :
    View.ld (iblk m c 0 t) (Rect.unit ![0, 0, 0, 0] ![1, 1, 256, 128] inb_S1x2x256x128_S1x1x256x128_0_0_0_0) (ix4 0 0 i d)
      = A0 m c (ix3 (bt t) r (qcol (hd t) 0 d)) := by
  pointwise
  exact rd0 m c t _ _ _ _ rfl hr rfl

/-- The keys of map 0 a point loads. -/
theorem ldK0 (c : Dev nD) (t : Fin cfg0.N) (n : Fin 4096) (d : Fin 128) :
    View.ld (iblk m c 1 t) (Rect.unit ![0, 0, 0, 0] ![1, 1, 4096, 128] inb_S1x2x4096x128_S1x1x4096x128_0_0_0_0) (ix4 0 0 n d)
      = A0 m c (ix3 (bt t) n (kcol (hd t) 0 d)) := by
  pointwise
  exact rd1 m c t _ _ _ _ rfl rfl rfl

/-- The queries of map 1 a point loads. -/
theorem ldQ1 (c : Dev nD) (t : Fin cfg0.N) (i : Fin 256) (d : Fin 128) (r : Fin 4096) (hr : r.val = t.val % 16 * 256 + i.val) :
    View.ld (iblk m c 0 t) (Rect.unit ![0, 1, 0, 0] ![1, 1, 256, 128] inb_S1x2x256x128_S1x1x256x128_0_1_0_0) (ix4 0 0 i d)
      = A0 m c (ix3 (bt t) r (qcol (hd t) 1 d)) := by
  pointwise
  exact rd0 m c t _ _ _ _ rfl hr rfl

/-- The keys of map 1 a point loads. -/
theorem ldK1 (c : Dev nD) (t : Fin cfg0.N) (n : Fin 4096) (d : Fin 128) :
    View.ld (iblk m c 1 t) (Rect.unit ![0, 1, 0, 0] ![1, 1, 4096, 128] inb_S1x2x4096x128_S1x1x4096x128_0_1_0_0) (ix4 0 0 n d)
      = A0 m c (ix3 (bt t) n (kcol (hd t) 1 d)) := by
  pointwise
  exact rd1 m c t _ _ _ _ rfl rfl rfl

/-- The first 128 rows of bias a point loads from the strip. -/
theorem ldA0 (c : Dev nD) (t : Fin cfg0.N) (i : Fin 128) (n : Fin 4096) (r : Fin 4096) (hr : r.val = t.val % 16 * 256 + i.val) (inb) :
    (View.ld (iblk m c 3 t) (Rect.unit (k0_off1 (grid0.coords t) 3968#32) ![1, 128, 4096] inb) (ix3 0 i n) : EReal)
      = A1 m c (ix2 (bkt (IntOp.subi (BitVec.ofNat 32 n.val) (BitVec.ofNat 32 r.val))) (bcol (hd t))) := by
  pointwise
  refine strip_at m c t _ n r ?_
  have h1 : k0_off1 (grid0.coords t) 3968#32 1 = 0 := congrFun (off1 t).1 1
  have h2 : k0_off1 (grid0.coords t) 3968#32 2 = 3968 - t.val % 16 * 256 := congrFun (off1 t).1 2
  show k0_off1 (grid0.coords t) 3968#32 2 + n.val + r.val = n.val + 3968 + (k0_off1 (grid0.coords t) 3968#32 1 + i.val)
  rw [h1, h2, hr]
  omega

/-- The second 128 rows of bias a point loads from the strip. -/
theorem ldA1 (c : Dev nD) (t : Fin cfg0.N) (i : Fin 128) (n : Fin 4096) (r : Fin 4096) (hr : r.val = t.val % 16 * 256 + 128 + i.val) (inb) :
    (View.ld (iblk m c 3 t) (Rect.unit (k0_off1 (grid0.coords t) 3840#32) ![1, 128, 4096] inb) (ix3 0 i n) : EReal)
      = A1 m c (ix2 (bkt (IntOp.subi (BitVec.ofNat 32 n.val) (BitVec.ofNat 32 r.val))) (bcol (hd t))) := by
  pointwise
  refine strip_at m c t _ n r ?_
  have h1 : k0_off1 (grid0.coords t) 3840#32 1 = 0 := congrFun (off1 t).2 1
  have h2 : k0_off1 (grid0.coords t) 3840#32 2 = 3840 - t.val % 16 * 256 := congrFun (off1 t).2 2
  show k0_off1 (grid0.coords t) 3840#32 2 + n.val + r.val = n.val + 3968 + (k0_off1 (grid0.coords t) 3840#32 1 + i.val)
  rw [h1, h2, hr]
  omega

/-- What a point leaves in its result block. -/
theorem point (c : Dev nD) (H : Reals (A0 m c) (A1 m c) (A2 m c)) (t : Fin cfg0.N) (i e : Fin 256) (r : Fin 4096)
    (hr : r.val = t.val % 16 * 256 + i.val) (g : Fin 1024) (hg : g.val = t.val / 64 * 256 + e.val) :
    (outsAt0 m c t.val t.isLt).1 (ix3 0 i e) = REF (A0 m c) (A1 m c) (A2 m c) (A3 m c) (ix3 (bt t) r g) := by
  by_cases h : t.val % 16 = 0
  · rw [outsAt0_A m c t h]; frame_out
    refine core (A0 m c) (A1 m c) (A2 m c) (A3 m c) H (bt t) (hd t) ⟨t.val % 16, by omega⟩ _ _ _ _ _ _ _ _ _
      (ldQ0 m c t) (ldQ1 m c t) (ldK0 m c t) (ldK1 m c t) (fun i n r hr => ldA0 m c t i n r hr _) (fun i n r hr => ldA1 m c t i n r hr _)
      (fun n e => ?_) (fun i d => rd4 m c t _) (fun e => rd5 m c t _) i e r hr g hg
    rw [View.readCov_eq_canon']
    canon_tiles x hh
    · have q0 : n.val = (x 0).val := by simpa using hh0
      have q1 : e.val = 128 + (x 1).val := by simpa using hh1
      pointwise [k0_pay3]
      exact vals m c t _ n e q0 (by rw [q1]; rfl)
    · have q0 : n.val = (x 0).val := by simpa using hh0
      have q1 : e.val = (x 1).val := by simpa using hh1
      pointwise [k0_pay2]
      exact vals m c t _ n e q0 (by rw [q1]; exact (Nat.zero_add _).symm)
  · have hV := scratch m c ⟨t.val - 1, Nat.lt_of_le_of_lt (Nat.sub_le _ _) t.isLt⟩
    have e1 : bt ⟨t.val - 1, Nat.lt_of_le_of_lt (Nat.sub_le _ _) t.isLt⟩ = bt t := Fin.ext (by
      show (t.val - 1) / 16 % 4 = t.val / 16 % 4
      omega)
    have e2 : hd ⟨t.val - 1, Nat.lt_of_le_of_lt (Nat.sub_le _ _) t.isLt⟩ = hd t := Fin.ext (by
      show (t.val - 1) / 64 = t.val / 64
      omega)
    rw [e1, e2] at hV
    rw [outsAt0_B m c t h]; frame_out
    rw [read_unread_whole]
    refine core (A0 m c) (A1 m c) (A2 m c) (A3 m c) H (bt t) (hd t) ⟨t.val % 16, by omega⟩ _ _ _ _ _ _ _ _ _
      (ldQ0 m c t) (ldQ1 m c t) (ldK0 m c t) (ldK1 m c t) (fun i n r hr => ldA0 m c t i n r hr _) (fun i n r hr => ldA1 m c t i n r hr _)
      (fun n e => ?_) (fun i d => rd4 m c t _) (fun e => rd5 m c t _) i e r hr g hg
    exact hV n e

/-- The place `y` of the result's block at a point, at coordinates. -/
theorem emb_val (t : Fin cfg0.N) (y : S1x256x256.Idx) :
    ((((cfg0.win 6).blk t).view.emb y) 0).val = t.val / 16 % 4
      ∧ ((((cfg0.win 6).blk t).view.emb y) 1).val = t.val % 16 * 256 + (y 1).val
      ∧ ((((cfg0.win 6).blk t).view.emb y) 2).val = t.val / 64 * 256 + (y 2).val := by
  refine ⟨?_, ?_, ?_⟩ <;> blk_simp [idx t]

/-- The same at an index of the block and of the array. -/
theorem point' (c : Dev nD) (H : Reals (A0 m c) (A1 m c) (A2 m c)) (t : Fin cfg0.N) (y : S1x256x256.Idx) (z : S4x4096x1024.Idx)
    (h0 : (z 0).val = t.val / 16 % 4) (h1 : (z 1).val = t.val % 16 * 256 + (y 1).val) (h2 : (z 2).val = t.val / 64 * 256 + (y 2).val) :
    (outsAt0 m c t.val t.isLt).1 y = REF (A0 m c) (A1 m c) (A2 m c) (A3 m c) z := by
  have ey : y = ix3 0 (y 1) (y 2) := by
    funext a
    match a with
    | ⟨0, _⟩ => exact Fin.ext (by have : (y 0).val < 1 := (y 0).isLt; show (y 0).val = 0; omega)
    | ⟨1, _⟩ => rfl
    | ⟨2, _⟩ => rfl
  have ez : z = ix3 (bt t) (z 1) (z 2) := by
    funext a
    match a with
    | ⟨0, _⟩ => exact Fin.ext h0
    | ⟨1, _⟩ => rfl
    | ⟨2, _⟩ => rfl
  rw [ey, ez]
  exact point m c H t (y 1) (y 2) (z 1) h1 (z 2) h2

/-- The result array after the run. -/
theorem final (c : Dev nD) (H : Reals (A0 m c) (A1 m c) (A2 m c)) : (dats m 0 c).arrAt 6 (cfgs 0).N
    = REF (A0 m c) (A1 m c) (A2 m c) (A3 m c) := by
  refine (dats m 0 c).arrAt_eq_of_covers 6 _ (by decide +kernel) fun t _ y => ?_
  obtain ⟨h0, h1, h2⟩ := emb_val t y
  blk_simp
  rw [after0_6]
  exact point' m c H t y _ h0 h1 h2

end Cert.KernelIdeal.RefValue

namespace Cert.Proof.DiffAttn

/-- The frames of the three programs. -/
theorem frame_P : Cert.quiescent_Kernel := fun m ρ _ => Cert.Kernel.Gen.frame m ρ
theorem frame_PI : Cert.quiescent_KernelIdeal := fun m ρ _ => Cert.KernelIdeal.Gen.frame m ρ
theorem frame_PI_pre : Cert.quiescent_KernelIdeal_pre_finite_values := fun m ρ _ => Cert.KernelIdeal.Gen.frame m ρ
theorem frame_RI : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)
theorem frame_RI_pre : Cert.quiescent_ReferenceIdeal_pre_finite_values := fun m ρ _ => frame_RI m ρ trivial

/-- The three constants of the kernel that are named have the values the table gives them. -/
theorem preserves : Cert.preserves_Kernel_KernelIdeal :=
  ⟨IdealRules.named_const.statement Cert.KernelIdeal.κ "log2e" .f32 0x3FB8AA3B#32 _ rfl,
    IdealRules.named_const.statement Cert.KernelIdeal.κ "scale_log2e" .f32 0x3E0293EE#32 _ rfl⟩

/-- On finite arguments that agree the two programs leave the same result. -/
theorem algebraic : Cert.algebraic_KernelIdeal_ReferenceIdeal_pre_finite_values := by
  intro m ρ m' ρ' hpre hagree
  refine ⟨fun c => Cert.KernelIdeal.RefValue.REF (m ((c.tc : Thread _ _).loc Cert.KernelIdeal.main_arg0))
    (m ((c.tc : Thread _ _).loc Cert.KernelIdeal.main_arg1)) (m ((c.tc : Thread _ _).loc Cert.KernelIdeal.main_arg2))
    (m ((c.tc : Thread _ _).loc Cert.KernelIdeal.main_arg3)), ?_, ?_⟩
  · exact (θ_run Cert.KernelIdeal.defs _ _).mono
      (fun _ h c => ⟨(h c).1.trans (Cert.KernelIdeal.RefValue.final m c (Cert.KernelIdeal.RefValue.reals_of _ _ _ _ (hpre c))), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v110_eq]
    show Cert.ReferenceIdeal.Read.val_main_v110 (F := Ideal) (m' ((c.tc : Thread _ _).loc Cert.ReferenceIdeal.main_arg0))
      (m' ((c.tc : Thread _ _).loc Cert.ReferenceIdeal.main_arg1)) (m' ((c.tc : Thread _ _).loc Cert.ReferenceIdeal.main_arg2))
      (m' ((c.tc : Thread _ _).loc Cert.ReferenceIdeal.main_arg3)) = _
    rw [(hagree c).1, (hagree c).2.1, (hagree c).2.2.1, (hagree c).2.2.2]

end Cert.Proof.DiffAttn

end
-- ==== Proof.InProjRun.lean ====
/- The in-projection (Kernel2): its body run in each of its three cases — the first column block of a row block, the
   middle two, the last — from the staging buffers' contents before it to their contents after it.
   Hand-written, untrusted. -/
module

public import proofs.«01_k».proof.Proof.Gen.Kernel2Ideal.Frame
public import proofs.«01_k».proof.Proof.Gen.Kernel2Ideal.Skeleton
public import Idealize.ShloMosaic.Lib.Pipeline.ValueKit

@[expose] public section

set_option maxRecDepth 16384

noncomputable section

namespace Cert.Kernel2Ideal.Body

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The sixteen column groups a point stores, rounded to bf16, last first: group `c` of `y · w` at row `c` of the block. -/
def pieces6 (y : Vec F S512x2048 .bf16) (w : Vec F S1x2048x2048 .bf16) : List (View.Piece (Elt F) S1x16x512x128 .bf16) :=
  [⟨Rect.unit (s := S1x16x512x128) ![0, 15, 0, 0] S1x1x512x128.size inb_S1x16x512x128_S1x1x512x128_0_15_0_0, k0_pay39 (k0_pay21 y w)⟩,
    ⟨Rect.unit (s := S1x16x512x128) ![0, 14, 0, 0] S1x1x512x128.size inb_S1x16x512x128_S1x1x512x128_0_14_0_0, k0_pay38 (k0_pay21 y w)⟩,
    ⟨Rect.unit (s := S1x16x512x128) ![0, 13, 0, 0] S1x1x512x128.size inb_S1x16x512x128_S1x1x512x128_0_13_0_0, k0_pay37 (k0_pay21 y w)⟩,
    ⟨Rect.unit (s := S1x16x512x128) ![0, 12, 0, 0] S1x1x512x128.size inb_S1x16x512x128_S1x1x512x128_0_12_0_0, k0_pay36 (k0_pay21 y w)⟩,
    ⟨Rect.unit (s := S1x16x512x128) ![0, 11, 0, 0] S1x1x512x128.size inb_S1x16x512x128_S1x1x512x128_0_11_0_0, k0_pay35 (k0_pay21 y w)⟩,
    ⟨Rect.unit (s := S1x16x512x128) ![0, 10, 0, 0] S1x1x512x128.size inb_S1x16x512x128_S1x1x512x128_0_10_0_0, k0_pay34 (k0_pay33 (k0_pay21 y w))⟩,
    ⟨Rect.unit (s := S1x16x512x128) ![0, 9, 0, 0] S1x1x512x128.size inb_S1x16x512x128_S1x1x512x128_0_9_0_0, k0_pay32 (k0_pay21 y w)⟩,
    ⟨Rect.unit (s := S1x16x512x128) ![0, 8, 0, 0] S1x1x512x128.size inb_S1x16x512x128_S1x1x512x128_0_8_0_0, k0_pay31 (k0_pay21 y w)⟩,
    ⟨Rect.unit (s := S1x16x512x128) ![0, 7, 0, 0] S1x1x512x128.size inb_S1x16x512x128_S1x1x512x128_0_7_0_0, k0_pay30 (k0_pay21 y w)⟩,
    ⟨Rect.unit (s := S1x16x512x128) ![0, 6, 0, 0] S1x1x512x128.size inb_S1x16x512x128_S1x1x512x128_0_6_0_0, k0_pay29 (k0_pay21 y w)⟩,
    ⟨Rect.unit (s := S1x16x512x128) ![0, 5, 0, 0] S1x1x512x128.size inb_S1x16x512x128_S1x1x512x128_0_5_0_0, k0_pay28 (k0_pay21 y w)⟩,
    ⟨Rect.unit (s := S1x16x512x128) ![0, 4, 0, 0] S1x1x512x128.size inb_S1x16x512x128_S1x1x512x128_0_4_0_0, k0_pay27 (k0_pay26 y w)⟩,
    ⟨Rect.unit (s := S1x16x512x128) ![0, 3, 0, 0] S1x1x512x128.size inb_S1x16x512x128_S1x1x512x128_0_3_0_0, k0_pay25 y w⟩,
    ⟨Rect.unit (s := S1x16x512x128) ![0, 2, 0, 0] S1x1x512x128.size inb_S1x16x512x128_S1x1x512x128_0_2_0_0, k0_pay24 y w⟩,
    ⟨Rect.unit (s := S1x16x512x128) ![0, 1, 0, 0] S1x1x512x128.size inb_S1x16x512x128_S1x1x512x128_0_1_0_0, k0_pay23 y w⟩,
    ⟨Rect.unit (s := S1x16x512x128) ![0, 0, 0, 0] S1x1x512x128.size inb_S1x16x512x128_S1x1x512x128_0_0_0_0, k0_pay22 y w⟩]

/-- The same sixteen groups, unrounded. -/
def pieces7 (y : Vec F S512x2048 .bf16) (w : Vec F S1x2048x2048 .bf16) : List (View.Piece (Elt F) S1x16x512x128 .f32) :=
  [⟨Rect.unit (s := S1x16x512x128) ![0, 15, 0, 0] S1x1x512x128.size inb_S1x16x512x128_S1x1x512x128_0_15_0_0, k0_pay3 (k0_pay21 y w)⟩,
    ⟨Rect.unit (s := S1x16x512x128) ![0, 14, 0, 0] S1x1x512x128.size inb_S1x16x512x128_S1x1x512x128_0_14_0_0, k0_pay2 (k0_pay21 y w)⟩,
    ⟨Rect.unit (s := S1x16x512x128) ![0, 13, 0, 0] S1x1x512x128.size inb_S1x16x512x128_S1x1x512x128_0_13_0_0, k0_pay1 (k0_pay18 (k0_pay21 y w))⟩,
    ⟨Rect.unit (s := S1x16x512x128) ![0, 12, 0, 0] S1x1x512x128.size inb_S1x16x512x128_S1x1x512x128_0_12_0_0, k0_pay17 (k0_pay21 y w)⟩,
    ⟨Rect.unit (s := S1x16x512x128) ![0, 11, 0, 0] S1x1x512x128.size inb_S1x16x512x128_S1x1x512x128_0_11_0_0, k0_pay16 (k0_pay21 y w)⟩,
    ⟨Rect.unit (s := S1x16x512x128) ![0, 10, 0, 0] S1x1x512x128.size inb_S1x16x512x128_S1x1x512x128_0_10_0_0, k0_pay15 (k0_pay21 y w)⟩,
    ⟨Rect.unit (s := S1x16x512x128) ![0, 9, 0, 0] S1x1x512x128.size inb_S1x16x512x128_S1x1x512x128_0_9_0_0, k0_pay14 (k0_pay21 y w)⟩,
    ⟨Rect.unit (s := S1x16x512x128) ![0, 8, 0, 0] S1x1x512x128.size inb_S1x16x512x128_S1x1x512x128_0_8_0_0, k0_pay13 (k0_pay21 y w)⟩,
    ⟨Rect.unit (s := S1x16x512x128) ![0, 7, 0, 0] S1x1x512x128.size inb_S1x16x512x128_S1x1x512x128_0_7_0_0, k0_pay12 (k0_pay21 y w)⟩,
    ⟨Rect.unit (s := S1x16x512x128) ![0, 6, 0, 0] S1x1x512x128.size inb_S1x16x512x128_S1x1x512x128_0_6_0_0, k0_pay11 (k0_pay10 (k0_pay21 y w))⟩,
    ⟨Rect.unit (s := S1x16x512x128) ![0, 5, 0, 0] S1x1x512x128.size inb_S1x16x512x128_S1x1x512x128_0_5_0_0, k0_pay9 (k0_pay21 y w)⟩,
    ⟨Rect.unit (s := S1x16x512x128) ![0, 4, 0, 0] S1x1x512x128.size inb_S1x16x512x128_S1x1x512x128_0_4_0_0, k0_pay8 (k0_pay21 y w)⟩,
    ⟨Rect.unit (s := S1x16x512x128) ![0, 3, 0, 0] S1x1x512x128.size inb_S1x16x512x128_S1x1x512x128_0_3_0_0, k0_pay7 (k0_pay21 y w)⟩,
    ⟨Rect.unit (s := S1x16x512x128) ![0, 2, 0, 0] S1x1x512x128.size inb_S1x16x512x128_S1x1x512x128_0_2_0_0, k0_pay6 (k0_pay21 y w)⟩,
    ⟨Rect.unit (s := S1x16x512x128) ![0, 1, 0, 0] S1x1x512x128.size inb_S1x16x512x128_S1x1x512x128_0_1_0_0, k0_pay5 (k0_pay21 y w)⟩,
    ⟨Rect.unit (s := S1x16x512x128) ![0, 0, 0, 0] S1x1x512x128.size inb_S1x16x512x128_S1x1x512x128_0_0_0_0, k0_pay4 (k0_pay21 y w)⟩]

/-- The sixteen groups fill the block. -/
theorem cover6 (y : Vec F S512x2048 .bf16) (w : Vec F S1x2048x2048 .bf16) (i : S1x16x512x128.Idx) :
    ∃ p ∈ pieces6 y w, i ∈ p.1.set :=
  View.cover_of_tiledL (pieces6 y w) S1x1x512x128.size (by sl_kernel_rfl) i

theorem cover7 (y : Vec F S512x2048 .bf16) (w : Vec F S1x2048x2048 .bf16) (i : S1x16x512x128.Idx) :
    ∃ p ∈ pieces7 y w, i ∈ p.1.set :=
  View.cover_of_tiledL (pieces7 y w) S1x1x512x128.size (by sl_kernel_rfl) i

/-- One store of the whole block fills it. -/
theorem coverH (y : FVec F S512x2048 .bf16) (i : S512x2048.Idx) :
    ∃ p ∈ ([⟨Rect.unit (s := S512x2048) ![0, 0] S512x2048.size inb_S512x2048_S512x2048_0_0, y⟩] : List (View.Piece (Elt F) S512x2048 .bf16)), i ∈ p.1.set :=
  View.cover_of_tiledL _ S512x2048.size (by sl_kernel_rfl) i

/-- The offset of a whole rectangle. -/
theorem zero2 : ∀ a : Fin S512x2048.rank, (![0, 0] : Fin 2 → ℕ) a = 0 := by decide

/-- Reading a whole buffer gives its contents. -/
theorem ld_rows {e : EltTy} (r : Memref sig .tc .vmem S512x2048 e) (h : r.IsWhole) (x : S512x2048.Idx → Elt F e) :
    View.readAt (Elt F) r.view (Rect.unit (s := S512x2048) ![0, 0] S512x2048.size inb_S512x2048_S512x2048_0_0).toLoadRect (h.unread x) = x := by
  show View.ld (View.read (Elt F) r.view (h.unread x)) (Rect.unit (s := S512x2048) ![0, 0] S512x2048.size inb_S512x2048_S512x2048_0_0) = x
  rw [h.read_unread]; exact View.ld_unit_lit _ x (by decide)

theorem ld_gain {e : EltTy} (r : Memref sig .tc .vmem S1x2048 e) (h : r.IsWhole) (x : S1x2048.Idx → Elt F e) :
    View.readAt (Elt F) r.view (Rect.unit (s := S1x2048) ![0, 0] S1x2048.size inb_S1x2048_S1x2048_0_0).toLoadRect (h.unread x) = x := by
  show View.ld (View.read (Elt F) r.view (h.unread x)) (Rect.unit (s := S1x2048) ![0, 0] S1x2048.size inb_S1x2048_S1x2048_0_0) = x
  rw [h.read_unread]; exact View.ld_unit_lit _ x (by decide)

theorem ld_weight {e : EltTy} (r : Memref sig .tc .vmem S1x2048x2048 e) (h : r.IsWhole) (x : S1x2048x2048.Idx → Elt F e) :
    View.readAt (Elt F) r.view (Rect.unit (s := S1x2048x2048) ![0, 0, 0] S1x2048x2048.size inb_S1x2048x2048_S1x2048x2048_0_0_0).toLoadRect (h.unread x) = x := by
  show View.ld (View.read (Elt F) r.view (h.unread x)) (Rect.unit (s := S1x2048x2048) ![0, 0, 0] S1x2048x2048.size inb_S1x2048x2048_S1x2048x2048_0_0_0) = x
  rw [h.read_unread]; exact View.ld_unit_lit _ x (by decide)

/-- Storing a whole buffer leaves what was stored. -/
theorem canon_rows (y : FVec F S512x2048 .bf16) :
    View.canon ([⟨Rect.unit (s := S512x2048) ![0, 0] S512x2048.size inb_S512x2048_S512x2048_0_0, y⟩] : List (View.Piece (Elt F) S512x2048 .bf16)) = y := by
  exact View.canon_cons_unit_lit (S := S512x2048) (Val := Elt F) (e := .bf16) _ y [] zero2

/-- Reading back a whole buffer just stored. -/
theorem readCov_rows (r : Memref sig .tc .vmem S512x2048 .bf16) (y : FVec F S512x2048 .bf16) :
    r.view.readCov ([⟨Rect.unit (s := S512x2048) ![0, 0] S512x2048.size inb_S512x2048_S512x2048_0_0, y⟩] : List (View.Piece (Elt F) S512x2048 .bf16))
      (Rect.unit (s := S512x2048) ![0, 0] S512x2048.size inb_S512x2048_S512x2048_0_0).toLoadRect = y :=
  View.readCov_unit_lit (S := S512x2048) (Val := Elt F) (e := .bf16) r.view inb_S512x2048_S512x2048_0_0 y zero2

set_option maxHeartbeats 4000000 in
/-- The body at the first column block of a row block: it normalises the rows, keeps the rounded rows in the scratch and in the third output, and stores both forms of the column block. -/
theorem run_A (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048x2048 .bf16) (harg4 : arg4.IsWhole) (arg5 : Memref sig .tc .vmem S512x2048 .bf16) (harg5 : arg5.IsWhole) (arg6 : Memref sig .tc .vmem S1x16x512x128 .bf16) (harg6 : arg6.IsWhole) (arg7 : Memref sig .tc .vmem S1x16x512x128 .f32) (harg7 : arg7.IsWhole) (arg8 : Memref sig .tc .vmem S512x2048 .bf16) (harg8 : arg8.IsWhole)
    (hc1 : k0_cond1 i = 1#1) (hc2 : k0_cond2 i = 1#1)
    (x0 : Vec F S512x2048 .f32) (x1 : Vec F S1x2048 .f32) (x2 : Vec F S1x2048x2048 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare (k0_pay19 x0 x1) ∗ owns (c : Thread nD τ) arg6 fullShare (View.canon (pieces6 (k0_pay20 x0 x1) x2)) ∗ owns (c : Thread nD τ) arg7 fullShare (View.canon (pieces7 (k0_pay20 x0 x1) x2)) ∗ owns (c : Thread nD τ) arg8 fullShare (k0_pay20 x0 x1)) -∗ K ⟨⟩))
      ⊢ wp frame (wpE (defs₀ (F := F)) Variants.none c none) E (cc0_inproj i arg2 harg2 arg3 harg3 arg4 harg4 arg5 harg5 arg6 harg6 arg7 harg7 arg8 harg8) K := by
  simp only [cc0_inproj_eq_skeleton]; unfold cc0_inproj_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds, %fs, -, HS⟩, Hk⟩
  obtain rfl := harg2.eq_unread hf0; obtain rfl := harg3.eq_unread hf1; obtain rfl := harg4.eq_unread hf2
  sl_exec (disch := first | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    exact (View.read_writes_eq_canon arg5.view f3 [⟨(Rect.unit (s := S512x2048) ![0, 0] S512x2048.size inb_S512x2048_S512x2048_0_0), k0_pay19 (View.readAt (Elt F) arg2.view (Rect.unit (s := S512x2048) ![0, 0] S512x2048.size inb_S512x2048_S512x2048_0_0).toLoadRect (harg2.unread x0)) (View.readAt (Elt F) arg3.view (Rect.unit (s := S1x2048) ![0, 0] S1x2048.size inb_S1x2048_S1x2048_0_0).toLoadRect (harg3.unread x1))⟩] (coverH _)).trans (by rw [canon_rows, ld_rows, ld_gain])
  isplitl [H4]
  · iexists _; isplitr
    swap; · iexact H4
    ipureintro
    refine Eq.trans (congrArg (fun L => View.read (Elt F) arg6.view (arg6.view.writes (Elt F) f4 L)) (?_ : _ = pieces6 (k0_pay20 x0 x1) x2)) (View.read_writes_eq_canon _ _ _ (cover6 (k0_pay20 x0 x1) x2))
    exact (show _ = pieces6 (arg8.view.readCov ([⟨(Rect.unit (s := S512x2048) ![0, 0] S512x2048.size inb_S512x2048_S512x2048_0_0), k0_pay20 (View.readAt (Elt F) arg2.view (Rect.unit (s := S512x2048) ![0, 0] S512x2048.size inb_S512x2048_S512x2048_0_0).toLoadRect (harg2.unread x0)) (View.readAt (Elt F) arg3.view (Rect.unit (s := S1x2048) ![0, 0] S1x2048.size inb_S1x2048_S1x2048_0_0).toLoadRect (harg3.unread x1))⟩] : List (View.Piece (Elt F) S512x2048 .bf16)) (Rect.unit (s := S512x2048) ![0, 0] S512x2048.size inb_S512x2048_S512x2048_0_0).toLoadRect) (View.readAt (Elt F) arg4.view (Rect.unit (s := S1x2048x2048) ![0, 0, 0] S1x2048x2048.size inb_S1x2048x2048_S1x2048x2048_0_0_0).toLoadRect (harg4.unread x2)) from rfl).trans (by rw [ld_rows, ld_gain, ld_weight, readCov_rows])
  isplitl [H5]
  · iexists _; isplitr
    swap; · iexact H5
    ipureintro
    refine Eq.trans (congrArg (fun L => View.read (Elt F) arg7.view (arg7.view.writes (Elt F) f5 L)) (?_ : _ = pieces7 (k0_pay20 x0 x1) x2)) (View.read_writes_eq_canon _ _ _ (cover7 (k0_pay20 x0 x1) x2))
    exact (show _ = pieces7 (arg8.view.readCov ([⟨(Rect.unit (s := S512x2048) ![0, 0] S512x2048.size inb_S512x2048_S512x2048_0_0), k0_pay20 (View.readAt (Elt F) arg2.view (Rect.unit (s := S512x2048) ![0, 0] S512x2048.size inb_S512x2048_S512x2048_0_0).toLoadRect (harg2.unread x0)) (View.readAt (Elt F) arg3.view (Rect.unit (s := S1x2048) ![0, 0] S1x2048.size inb_S1x2048_S1x2048_0_0).toLoadRect (harg3.unread x1))⟩] : List (View.Piece (Elt F) S512x2048 .bf16)) (Rect.unit (s := S512x2048) ![0, 0] S512x2048.size inb_S512x2048_S512x2048_0_0).toLoadRect) (View.readAt (Elt F) arg4.view (Rect.unit (s := S1x2048x2048) ![0, 0, 0] S1x2048x2048.size inb_S1x2048x2048_S1x2048x2048_0_0_0).toLoadRect (harg4.unread x2)) from rfl).trans (by rw [ld_rows, ld_gain, ld_weight, readCov_rows])
  iexists _; isplitr
  swap; · iexact HS
  ipureintro
  exact (View.read_writes_eq_canon arg8.view fs [⟨(Rect.unit (s := S512x2048) ![0, 0] S512x2048.size inb_S512x2048_S512x2048_0_0), k0_pay20 (View.readAt (Elt F) arg2.view (Rect.unit (s := S512x2048) ![0, 0] S512x2048.size inb_S512x2048_S512x2048_0_0).toLoadRect (harg2.unread x0)) (View.readAt (Elt F) arg3.view (Rect.unit (s := S1x2048) ![0, 0] S1x2048.size inb_S1x2048_S1x2048_0_0).toLoadRect (harg3.unread x1))⟩] (coverH _)).trans (by rw [canon_rows, ld_rows, ld_gain])

set_option maxHeartbeats 4000000 in
/-- The body at the two middle column blocks: it multiplies the rows the scratch holds and stores both forms of the column block. -/
theorem run_B (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048x2048 .bf16) (harg4 : arg4.IsWhole) (arg5 : Memref sig .tc .vmem S512x2048 .bf16) (harg5 : arg5.IsWhole) (arg6 : Memref sig .tc .vmem S1x16x512x128 .bf16) (harg6 : arg6.IsWhole) (arg7 : Memref sig .tc .vmem S1x16x512x128 .f32) (harg7 : arg7.IsWhole) (arg8 : Memref sig .tc .vmem S512x2048 .bf16) (harg8 : arg8.IsWhole)
    (hc1 : ¬ k0_cond1 i = 1#1) (hc2 : k0_cond2 i = 1#1)
    (x0 : Vec F S512x2048 .f32) (x1 : Vec F S1x2048 .f32) (x2 : Vec F S1x2048x2048 .bf16) (x3 : Vec F S512x2048 .bf16) (xs : Vec F S512x2048 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (View.canon (pieces6 xs x2)) ∗ owns (c : Thread nD τ) arg7 fullShare (View.canon (pieces7 xs x2)) ∗ owns (c : Thread nD τ) arg8 fullShare xs) -∗ K ⟨⟩))
      ⊢ wp frame (wpE (defs₀ (F := F)) Variants.none c none) E (cc0_inproj i arg2 harg2 arg3 harg3 arg4 harg4 arg5 harg5 arg6 harg6 arg7 harg7 arg8 harg8) K := by
  simp only [cc0_inproj_eq_skeleton]; unfold cc0_inproj_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs, %hfs, HS⟩, Hk⟩
  obtain rfl := harg2.eq_unread hf0; obtain rfl := harg3.eq_unread hf1; obtain rfl := harg4.eq_unread hf2; obtain rfl := harg5.eq_unread hf3; obtain rfl := harg8.eq_unread hfs
  sl_exec (disch := first | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    refine Eq.trans (congrArg (fun L => View.read (Elt F) arg6.view (arg6.view.writes (Elt F) f4 L)) (?_ : _ = pieces6 xs x2)) (View.read_writes_eq_canon _ _ _ (cover6 xs x2))
    exact (show _ = pieces6 (View.readAt (Elt F) arg8.view (Rect.unit (s := S512x2048) ![0, 0] S512x2048.size inb_S512x2048_S512x2048_0_0).toLoadRect (harg8.unread xs)) (View.readAt (Elt F) arg4.view (Rect.unit (s := S1x2048x2048) ![0, 0, 0] S1x2048x2048.size inb_S1x2048x2048_S1x2048x2048_0_0_0).toLoadRect (harg4.unread x2)) from rfl).trans (by rw [ld_rows, ld_weight])
  isplitl [H5]
  · iexists _; isplitr
    swap; · iexact H5
    ipureintro
    refine Eq.trans (congrArg (fun L => View.read (Elt F) arg7.view (arg7.view.writes (Elt F) f5 L)) (?_ : _ = pieces7 xs x2)) (View.read_writes_eq_canon _ _ _ (cover7 xs x2))
    exact (show _ = pieces7 (View.readAt (Elt F) arg8.view (Rect.unit (s := S512x2048) ![0, 0] S512x2048.size inb_S512x2048_S512x2048_0_0).toLoadRect (harg8.unread xs)) (View.readAt (Elt F) arg4.view (Rect.unit (s := S1x2048x2048) ![0, 0, 0] S1x2048x2048.size inb_S1x2048x2048_S1x2048x2048_0_0_0).toLoadRect (harg4.unread x2)) from rfl).trans (by rw [ld_rows, ld_weight])
  iexists _; isplitr; · ipureintro; exact harg8.read_unread _
  iexact HS

set_option maxHeartbeats 4000000 in
/-- The body at the last column block: it stores the rounded form only. -/
theorem run_C (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048x2048 .bf16) (harg4 : arg4.IsWhole) (arg5 : Memref sig .tc .vmem S512x2048 .bf16) (harg5 : arg5.IsWhole) (arg6 : Memref sig .tc .vmem S1x16x512x128 .bf16) (harg6 : arg6.IsWhole) (arg7 : Memref sig .tc .vmem S1x16x512x128 .f32) (harg7 : arg7.IsWhole) (arg8 : Memref sig .tc .vmem S512x2048 .bf16) (harg8 : arg8.IsWhole)
    (hc1 : ¬ k0_cond1 i = 1#1) (hc2 : ¬ k0_cond2 i = 1#1)
    (x0 : Vec F S512x2048 .f32) (x1 : Vec F S1x2048 .f32) (x2 : Vec F S1x2048x2048 .bf16) (x3 : Vec F S512x2048 .bf16) (xs : Vec F S512x2048 .bf16) (x5 : Vec F S1x16x512x128 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare x5 ∗ owns (c : Thread nD τ) arg8 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (View.canon (pieces6 xs x2)) ∗ owns (c : Thread nD τ) arg7 fullShare x5 ∗ owns (c : Thread nD τ) arg8 fullShare xs) -∗ K ⟨⟩))
      ⊢ wp frame (wpE (defs₀ (F := F)) Variants.none c none) E (cc0_inproj i arg2 harg2 arg3 harg3 arg4 harg4 arg5 harg5 arg6 harg6 arg7 harg7 arg8 harg8) K := by
  simp only [cc0_inproj_eq_skeleton]; unfold cc0_inproj_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs, %hfs, HS⟩, Hk⟩
  obtain rfl := harg2.eq_unread hf0; obtain rfl := harg3.eq_unread hf1; obtain rfl := harg4.eq_unread hf2; obtain rfl := harg5.eq_unread hf3; obtain rfl := harg8.eq_unread hfs; obtain rfl := harg7.eq_unread hf5
  sl_exec (disch := first | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    refine Eq.trans (congrArg (fun L => View.read (Elt F) arg6.view (arg6.view.writes (Elt F) f4 L)) (?_ : _ = pieces6 xs x2)) (View.read_writes_eq_canon _ _ _ (cover6 xs x2))
    exact (show _ = pieces6 (View.readAt (Elt F) arg8.view (Rect.unit (s := S512x2048) ![0, 0] S512x2048.size inb_S512x2048_S512x2048_0_0).toLoadRect (harg8.unread xs)) (View.readAt (Elt F) arg4.view (Rect.unit (s := S1x2048x2048) ![0, 0, 0] S1x2048x2048.size inb_S1x2048x2048_S1x2048x2048_0_0_0).toLoadRect (harg4.unread x2)) from rfl).trans (by rw [ld_rows, ld_weight])
  isplitl [H5]
  · iexists _; isplitr; · ipureintro; exact harg7.read_unread _
    iexact H5
  iexists _; isplitr; · ipureintro; exact harg8.read_unread _
  iexact HS

end Cert.Kernel2Ideal.Body

end
-- ==== Proof.InProjFrame.lean ====
/- The in-projection (Kernel2): its pipeline's proof data and its run. What the scratch holds after a point is the
   normalised rows of that point's row block, whether the point stored them or an earlier point of the same row block
   did, so every buffer's contents after a point is a closed form in the point's input blocks.
   Hand-written, untrusted. -/
module

public import proofs.«01_k».proof.Proof.InProjRun
public import Idealize.ShloMosaic.Lib.Pipeline.ValueKit

@[expose] public section

set_option maxRecDepth 16384

noncomputable section

namespace Cert.Kernel2Ideal.Body

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The block index of every window at every grid point. -/
theorem idx : ∀ t : Fin cfg0.N, win0_0.index t = ![t.val / 4, 0] ∧ win0_1.index t = ![0, 0]
    ∧ win0_2.index t = ![0, 0, t.val % 4] ∧ win0_3.index t = ![t.val / 4, 0]
    ∧ win0_4.index t = ![t.val / 32, t.val % 4, t.val / 4 % 8, 0]
    ∧ win0_5.index t = ![t.val / 32, min (t.val % 4) 2, t.val / 4 % 8, 0] ∧ t.val < 128 :=
  (by decide +kernel : ∀ t : Fin grid0.N, _)

/-- The first branch of the body is taken at the first column block, -/
theorem first : ∀ t : Fin cfg0.N, k0_cond1 (grid0.coords t) = 1#1 ↔ t.val % 4 = 0 :=
  (by decide +kernel : ∀ t : Fin grid0.N, k0_cond1 (grid0.coords t) = 1#1 ↔ t.val % 4 = 0)

/-- the second at all but the last. -/
theorem notLast : ∀ t : Fin cfg0.N, k0_cond2 (grid0.coords t) = 1#1 ↔ t.val % 4 ≠ 3 :=
  (by decide +kernel : ∀ t : Fin grid0.N, k0_cond2 (grid0.coords t) = 1#1 ↔ t.val % 4 ≠ 3)

/-- The point before. -/
abbrev prev (t : Fin cfg0.N) : Fin cfg0.N := ⟨t.val - 1, lt_of_le_of_lt (Nat.sub_le _ _) t.isLt⟩

/-- The rows depend on the row block alone. -/
theorem iblk0_prev (c : Dev nD) (t : Fin cfg0.N) (h : t.val % 4 ≠ 0) : iblk m c 0 t = iblk m c 0 (prev t) := by
  have e : t.val / 4 = (t.val - 1) / 4 := by omega
  funext y
  blk_simp [iblk]
  refine congrArg _ ?_
  blk_ext [idx t, idx (prev t)]

theorem iblk1_prev (c : Dev nD) (t : Fin cfg0.N) : iblk m c 1 t = iblk m c 1 (prev t) := by
  funext y
  blk_simp [iblk]
  refine congrArg _ ?_
  blk_ext [idx t, idx (prev t)]

/-- The point whose column block the unrounded output's buffer holds after a point. -/
abbrev kept (t : Fin cfg0.N) : Fin cfg0.N := if t.val % 4 = 3 then prev t else t

/-- The normalised rows of a point's row block, as the scratch holds them. -/
abbrev rows (c : Dev nD) (t : Fin cfg0.N) : Vec F S512x2048 .bf16 := k0_pay20 (iblk m c 0 t) (iblk m c 1 t)

theorem rows_prev (c : Dev nD) (t : Fin cfg0.N) (h : t.val % 4 ≠ 0) : rows m c (prev t) = rows m c t := by
  unfold rows; rw [← iblk0_prev m c t h, ← iblk1_prev m c t]

/-- The windows' current staging buffers at a point, and the scratch. -/
abbrev ms0 (t : Fin cfg0.N) : Memref sig .tc .vmem S512x2048 .f32 := win0_0.stage (cfg0.slots t 0)
abbrev ms1 (t : Fin cfg0.N) : Memref sig .tc .vmem S1x2048 .f32 := win0_1.stage (cfg0.slots t 1)
abbrev ms2 (t : Fin cfg0.N) : Memref sig .tc .vmem S1x2048x2048 .bf16 := win0_2.stage (cfg0.slots t 2)
abbrev ms3 (t : Fin cfg0.N) : Memref sig .tc .vmem S512x2048 .bf16 := win0_3.stage (cfg0.slots t 3)
abbrev ms4 (t : Fin cfg0.N) : Memref sig .tc .vmem S1x16x512x128 .bf16 := win0_4.stage (cfg0.slots t 4)
abbrev ms5 (t : Fin cfg0.N) : Memref sig .tc .vmem S1x16x512x128 .f32 := win0_5.stage (cfg0.slots t 5)
abbrev scM : Memref sig .tc .vmem S512x2048 .bf16 := Memref.whole cc0_scratch0

/-- What the launch hands over, with the scratch owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- The invariant before point `n`: the scratch at anything before the first point, afterwards at the rows of the point before. -/
def PhiS (c : Dev nD) : (n : ℕ) → n ≤ cfg0.N → sProp 𝕄
  | 0, _ => Pipeline.ΦA spec0 c
  | n + 1, hn => iprop(iprop(owns (c : Thread nD τ) scM fullShare (rows m c ⟨n, hn⟩)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (t : Fin cfg0.N) :
    PhiS m c (t.val + 1) t.isLt = iprop(iprop(owns (c : Thread nD τ) scM fullShare (rows m c t)) ∗ (∃ r, prngReg c r)) := rfl

theorem PhiS_pos (c : Dev nD) (t : Fin cfg0.N) (hz : t.val ≠ 0) :
    PhiS m c t.val (Nat.le_of_lt t.isLt) = iprop(iprop(owns (c : Thread nD τ) scM fullShare (rows m c (prev t))) ∗ (∃ r, prngReg c r)) := by
  obtain ⟨n, hn⟩ := t
  cases n with
  | zero => exact absurd rfl hz
  | succ n => rfl

/-- The proof data: the arrays as the region finds them, each input's buffer at its block, the outputs' at their closed forms. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay19 (iblk m c 0 t) (iblk m c 1 t)
    | ⟨4, _⟩ => View.canon (pieces6 (rows m c t) (iblk m c 2 t))
    | ⟨5, _⟩ => View.canon (pieces7 (rows m c (kept t)) (iblk m c 2 (kept t)))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = k0_pay19 (iblk m c 0 t) (iblk m c 1 t) := by dsimp only [dats]
theorem after0_4 (c : Dev nD) (t : Fin cfg0.N) : (dats m 0 c).after 4 t = View.canon (pieces6 (rows m c t) (iblk m c 2 t)) := by dsimp only [dats]
theorem after0_5 (c : Dev nD) (t : Fin cfg0.N) : (dats m 0 c).after 5 t = View.canon (pieces7 (rows m c (kept t)) (iblk m c 2 (kept t))) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- Where the two outputs that some points do not store are written back, and where they are not stored. -/
theorem flush5 : ∀ t : Fin cfg0.N, (cfg0.win 5).flush t = true ↔ t.val % 4 ≠ 2 :=
  (by decide +kernel : ∀ t : Fin grid0.N, win0_5.flush t = true ↔ t.val % 4 ≠ 2)

theorem idle3 (t : Fin cfg0.N) : cfg0.idle 3 (cfg0.grid.coords t) = true ↔ t.val % 4 ≠ 0 := by
  show (!(k0_cond1 (grid0.coords t) == 1#1)) = true ↔ _
  rw [Bool.not_eq_true', beq_eq_false_iff_ne, ne_eq, first t]

theorem idle5 (t : Fin cfg0.N) : cfg0.idle 5 (cfg0.grid.coords t) = true ↔ t.val % 4 = 3 := by
  show (!(k0_cond2 (grid0.coords t) == 1#1)) = true ↔ _
  rw [Bool.not_eq_true', beq_eq_false_iff_ne, ne_eq, notLast t]; omega

/-- An output's buffer after a point that stored it and did not write it back. -/
theorem before_stored (c : Dev nD) (w : Fin cfg0.W) (hw : (cfg0.win w).isOut = true)
    (hclip : ∀ (i : cfg0.grid.Coords) a, (cfg0.win w).clip i a = none) (t : Fin cfg0.N) (ht : t.val ≠ 0)
    (hfl : (cfg0.win w).flush (prev t) = false) (hi : cfg0.idle w (cfg0.grid.coords (prev t)) = false) (d) :
    (dats m 0 c).before w t d = (dats m 0 c).after w (prev t) := by
  rw [(dats m 0 c).before_of_pos w t ht ((cfg0.win w).fetch_out hw t), hfl, if_neg Bool.false_ne_true]
  unfold Dat.left; rw [hi]
  show (dats m 0 c).kept w (prev t) d = _
  unfold Dat.kept
  rw [Pipeline.fill_of_clip_none w _ (hclip _) d ((dats m 0 c).after w _), Pipeline.Window.fill_cut]

/-- An output's buffer after a point that neither stored it nor wrote it back. -/
theorem before_idle (c : Dev nD) (w : Fin cfg0.W) (hw : (cfg0.win w).isOut = true) (t : Fin cfg0.N) (ht : t.val ≠ 0)
    (hfl : (cfg0.win w).flush (prev t) = false) (hi : cfg0.idle w (cfg0.grid.coords (prev t)) = true) (d) :
    (dats m 0 c).before w t d = (dats m 0 c).before w (prev t) d := by
  rw [(dats m 0 c).before_of_pos w t ht ((cfg0.win w).fetch_out hw t), hfl, if_neg Bool.false_ne_true]
  unfold Dat.left; rw [hi]

/-- The normalised rows stay in the third output's buffer through a row block. -/
theorem before3 (c : Dev nD) (d) : ∀ (n : ℕ) (t : Fin cfg0.N), t.val % 4 = n → n ≠ 0 →
    (dats m 0 c).before 3 t d = (dats m 0 c).after 3 t
  | 0, _, _, h => absurd rfl h
  | n + 1, t, ht, _ => by
    have hp : (prev t).val % 4 = n := by show (t.val - 1) % 4 = n; omega
    have hfl : (cfg0.win 3).flush (prev t) = false := by
      rw [Bool.eq_false_iff, ne_eq, flush0_3]; omega
    have e : (dats m 0 c).after 3 (prev t) = (dats m 0 c).after 3 t := by
      rw [after0_3, after0_3, iblk0_prev m c t (by omega), iblk1_prev m c t]
    rw [← e]
    by_cases hn : n = 0
    · exact before_stored m c 3 rfl (fun _ _ => rfl) t (by omega) hfl
        (by rw [Bool.eq_false_iff, ne_eq, idle3]; omega) d
    · rw [before_idle m c 3 rfl t (by omega) hfl (by rw [idle3]; omega) d]
      exact before3 c d n (prev t) hp hn

/-- At the last column block the unrounded output's buffer still holds the block before. -/
theorem before5 (c : Dev nD) (t : Fin cfg0.N) (h : t.val % 4 = 3) (d) :
    (dats m 0 c).before 5 t d = (dats m 0 c).after 5 t := by
  have hp : (prev t).val % 4 = 2 := by show (t.val - 1) % 4 = 2; omega
  have e : (dats m 0 c).after 5 (prev t) = (dats m 0 c).after 5 t := by
    rw [after0_5, after0_5]
    rw [show kept (prev t) = prev t from if_neg (by omega), show kept t = prev t from if_pos h]
  rw [← e]
  exact before_stored m c 5 rfl (fun _ _ => rfl) t (by omega)
    (by rw [Bool.eq_false_iff, ne_eq, flush5]; omega) (by rw [Bool.eq_false_iff, ne_eq, idle5]; omega) d

/-- What a point leaves in those two buffers, by the case it is in. -/
theorem leaves_stored (c : Dev nD) (w : Fin cfg0.W) (t : Fin cfg0.N) (hi : cfg0.idle w (cfg0.grid.coords t) = false) :
    (dats m 0 c).leavesExact w t = owns (c : Thread nD τ) ((cfg0.win w).stage (cfg0.slots t w)) fullShare ((dats m 0 c).after w t) := by
  unfold Dat.leavesExact; rw [hi]

theorem leaves_flushed (c : Dev nD) (w : Fin cfg0.W) (t : Fin cfg0.N) (hf : (cfg0.win w).flush t = true) :
    (dats m 0 c).leavesExact w t = owns (c : Thread nD τ) ((cfg0.win w).stage (cfg0.slots t w)) fullShare ((dats m 0 c).after w t) := by
  unfold Dat.leavesExact; rw [hf]; cases cfg0.idle w (cfg0.grid.coords t) <;> rfl

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ (dats m 0 c).leavesExact 3 t
    ∗ owns (c : Thread nD τ) (ms4 t) fullShare ((dats m 0 c).after 4 t)
    ∗ (dats m 0 c).leavesExact 5 t)

theorem Phi_castSucc (c : Dev nD) (t : Fin cfg0.N) :
    (dats m 0 c).Φ t.castSucc = PhiS m c t.val (Nat.le_of_lt t.isLt) := by
  dsimp only [dats]; exact Pipeline.Dat.Φ_castSucc (PhiS m c) t

/-- Before any point the scratch is owned at something. -/
theorem Phi_any (c : Dev nD) (t : Fin cfg0.N) :
    PhiS m c t.val (Nat.le_of_lt t.isLt) ⊢ iprop(iprop((∃ d, owns (c : Thread nD τ) scM fullShare d)) ∗ (∃ r, prngReg c r)) := by
  by_cases hz : t.val = 0
  · rw [PhiS_zero m c _ _ hz, PhiA_eq]
  · rw [PhiS_pos m c t hz]
    iintro ⟨HS, Hg⟩
    isplitl [HS]; · iexists _; iexact HS
    iexact Hg

set_option maxHeartbeats 6400000 in
/-- The body at any point, by its three cases. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl,
    after0_0, after0_1, after0_2, after0_4]
  rw [show (dats m 0 c).Φ t.succ = PhiS m c (t.val + 1) t.isLt from rfl, PhiS_succ, Phi_castSucc]
  by_cases h0 : t.val % 4 = 0
  · rw [leaves_stored m c 3 t (by rw [Bool.eq_false_iff, ne_eq, idle3]; omega),
      leaves_stored m c 5 t (by rw [Bool.eq_false_iff, ne_eq, idle5]; omega), after0_3, after0_5,
      show kept t = t from if_neg (by omega)]
    iintro ⟨HP, Ho, ⟨%d0, H0⟩, ⟨%d1, H1⟩, ⟨%d2, H2⟩, ⟨%d3, H3⟩, ⟨%d4, H4⟩, ⟨%d5, H5⟩⟩
    ihave ⟨HS, Hg⟩ := (Phi_any m c t) $$ HP
    iapply (run_A c (grid0.coords t) _ _ _ _ _ _ _ _ _ _ _ _ _ _ ((first t).mpr h0) ((notLast t).mpr (by omega)) (iblk m c 0 t) (iblk m c 1 t) (iblk m c 2 t) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS]; · iexact HS
    iintro ⟨H0, H1, H2, H3, H4, H5, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [PhiS_pos m c t (by omega), rows_prev m c t h0]
    by_cases h3 : t.val % 4 = 3
    · rw [leaves_flushed m c 3 t ((flush0_3 t).mpr h3), leaves_flushed m c 5 t ((flush5 t).mpr (by omega))]
      simp only [before3 m c _ 3 t h3 (by decide), before5 m c t h3]
      iintro ⟨⟨HS, Hg⟩, Ho, ⟨%d0, H0⟩, ⟨%d1, H1⟩, ⟨%d2, H2⟩, ⟨%d3, H3⟩, ⟨%d4, H4⟩, ⟨%d5, H5⟩⟩
      iapply (run_C c (grid0.coords t) _ _ _ _ _ _ _ _ _ _ _ _ _ _ (fun h => h0 ((first t).mp h)) (fun h => (notLast t).mp h h3) (iblk m c 0 t) (iblk m c 1 t) (iblk m c 2 t) _ _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [HS]; · iexact HS
      iintro ⟨H0, H1, H2, H3, H4, H5, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [(dats m 0 c).leavesExact_idle 3 t ((idle3 t).mpr h0) (by rw [Bool.eq_false_iff, ne_eq, flush0_3]; exact h3),
        leaves_stored m c 5 t (by rw [Bool.eq_false_iff, ne_eq, idle5]; exact h3), after0_5,
        show kept t = t from if_neg h3]
      iintro ⟨⟨HS, Hg⟩, Ho, ⟨%d0, H0⟩, ⟨%d1, H1⟩, ⟨%d2, H2⟩, ⟨%d3, H3⟩, ⟨%d4, H4⟩, ⟨%d5, H5⟩⟩
      iapply (run_B c (grid0.coords t) _ _ _ _ _ _ _ _ _ _ _ _ _ _ (fun h => h0 ((first t).mp h)) ((notLast t).mpr h3) (iblk m c 0 t) (iblk m c 1 t) (iblk m c 2 t) _ _ Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS]; · iexact HS
      iintro ⟨H0, H1, H2, H3, H4, H5, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexists _; iexact H3
      isplitl [H4]; · iexact H4
      iexact H5

/-- The body table's row is the body at the current buffers. -/
theorem row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]

theorem hout (c : Dev nD) : (dats m 0 c).Φ (Fin.last cfg0.N) ⊢ Pipeline.ΦA spec0 c := by
  have hN : 127 < cfg0.N := by rw [show cfg0.N = 128 from N_0]; decide
  rw [show (dats m 0 c).Φ (Fin.last cfg0.N) = PhiS m c (127 + 1) hN from rfl, PhiS_succ m c ⟨127, hN⟩, PhiA_eq]
  iintro ⟨HS, Hg⟩
  isplitl [HS]; · iexists _; iexact HS
  iexact Hg

set_option backward.isDefEq.respectTransparency.types false in
/-- The run of the whole program: every array of the pipeline ends as the proof data says, every counter at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c w => by show (if _ then fullShare else fullShare) = fullShare; split <;> rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

end Cert.Kernel2Ideal.Body

end
-- ==== Proof.InProj.lean ====
/- The in-projection (Kernel2): what its three result arrays hold after the run is the reference's — the normalised
   rows, the projection onto the mixers' columns by column groups rounded to bf16, and the first 48 groups unrounded —
   and the claims about the two programs. Hand-written, untrusted. -/
module

public import proofs.«01_k».proof.Defs
public import proofs.«01_k».proof.Proof.InProjFrame
public import proofs.«01_k».proof.Proof.Gen.Kernel2.Frame
public import proofs.«01_k».proof.Proof.Gen.Reference2Ideal.Read
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel2Ideal.RefValue

open Cert.Kernel2Ideal Cert.Kernel2Ideal.Gen Cert.Kernel2Ideal.Body

variable (m : (ℓ : Loc nD τ sig) → Buf (Elt Ideal) ℓ)

/-- The reference's normed input over the kernel's arguments, -/
abbrev NORM (X : FVec Ideal S4x4096x2048 .f32) (G : FVec Ideal S2x2048 .f32) : FVec Ideal S4x4096x2048 .f32 :=
  Cert.Reference2Ideal.Read.val_main_v14 (F := Ideal) X G

/-- and its projection. -/
abbrev PROJ (X : FVec Ideal S4x4096x2048 .f32) (G : FVec Ideal S2x2048 .f32) (W : FVec Ideal S2x2048x14336 .f32) :
    FVec Ideal Cert.Reference2Ideal.S4x4096x14336 .f32 := Cert.Reference2Ideal.Read.val_main_v17 (F := Ideal) X G W

/-- The rows a point reads. -/
theorem rd0 (c : Dev nD) (t : Fin cfg0.N) (y : S512x2048.Idx) (a : Fin 4) (b : Fin 4096) (d : Fin 2048)
    (h : t.val / 4 * 512 + (y 0).val = a.val * 4096 + b.val) (h' : (y 1).val = d.val) :
    iblk m c 0 t y = m ((c : Thread nD τ).loc main_arg0) (ix3 a b d) := by
  blk_simp [iblk]; entry_read; pointwise; blk_ext [idx t]

/-- The gain. -/
theorem rd1 (c : Dev nD) (t : Fin cfg0.N) (y : S1x2048.Idx) (d : Fin 2048) (h : (y 1).val = d.val) :
    iblk m c 1 t y = m ((c : Thread nD τ).loc main_arg1) (ix2 0 d) := by
  blk_simp [iblk]; entry_read; pointwise; blk_ext [idx t]

/-- The columns of the weight a point reads. -/
theorem rd2 (c : Dev nD) (t : Fin cfg0.N) (y : S1x2048x2048.Idx) (b : Fin 14336)
    (h : b.val = t.val % 4 * 2048 + (y 2).val) :
    iblk m c 2 t y = m ((c : Thread nD τ).loc main_arg2) (ix3 0 (y 1) b) := by
  blk_simp [iblk]; entry_read; pointwise; blk_ext [idx t]

/-- A point's normalised rows are the reference's. -/
theorem norm (c : Dev nD) (t : Fin cfg0.N) (y : S512x2048.Idx) (a : Fin 4) (b : Fin 4096)
    (h : t.val / 4 * 512 + (y 0).val = a.val * 4096 + b.val) :
    k0_pay19 (iblk m c 0 t) (iblk m c 1 t) y
      = NORM (m ((c : Thread nD τ).loc main_arg0)) (m ((c : Thread nD τ).loc main_arg1)) (ix3 a b (y 1)) := by
  pointwise [k0_pay19, NORM, Cert.Reference2Ideal.Read.val_main_v14, Cert.Reference2Ideal.Read.val_main_v13, Cert.Reference2Ideal.Read.val_main_v12, Cert.Reference2Ideal.Read.val_main_v11, Cert.Reference2Ideal.Read.val_main_v10, Cert.Reference2Ideal.Read.val_main_v9, Cert.Reference2Ideal.Read.val_main_v8, Cert.Reference2Ideal.Read.val_main_v7, Cert.Reference2Ideal.Read.val_main_v6, Cert.Reference2Ideal.Read.val_main_v5, Cert.Reference2Ideal.Read.val_main_v4, Cert.Reference2Ideal.Read.val_main_v3, Cert.Reference2Ideal.Read.val_main_v2, Cert.Reference2Ideal.Read.val_main_v1, Cert.Reference2Ideal.Read.val_main_v0, Cert.Reference2Ideal.Read.val_main_cst, Cert.Reference2Ideal.Read.val_main_cst_0, Cert.Reference2Ideal.Read.val_main_cst_1]
  have hs := Finset.sum_congr (s₁ := Finset.univ) rfl fun (k : Fin 2048) _ =>
      congrArg (fun z : EReal => z * z) (rd0 m c t (ix2 (y 0) k) a b k h rfl)
  refine congrArg₂ (· * ·) (congrArg₂ (· * ·) (rd0 m c t y _ _ _ h rfl)
    (congrArg (fun z => Ideal.rsqrt (Ideal.div z (Ideal.ofBits FTy.f32 1157627904#32) + Ideal.ofBits FTy.f32 897988541#32))
      ?_)) (rd1 m c t (ix2 0 (y 1)) _ rfl)
  exact hs

/-- The same of the rows as the scratch holds them. -/
theorem rows_at (c : Dev nD) (t : Fin cfg0.N) (y : S512x2048.Idx) (a : Fin 4) (b : Fin 4096)
    (h : t.val / 4 * 512 + (y 0).val = a.val * 4096 + b.val) :
    rows m c t y
      = NORM (m ((c : Thread nD τ).loc main_arg0)) (m ((c : Thread nD τ).loc main_arg1)) (ix3 a b (y 1)) := by
  refine Eq.trans ?_ (norm m c t y a b h)
  unfold rows k0_pay20
  generalize k0_pay19 (iblk m c 0 t) (iblk m c 1 t) = z
  pointwise

/-- A product of a row block and a column block at a place, as a sum. -/
theorem product (x : Vec Ideal S512x2048 .bf16) (w : Vec Ideal S1x2048x2048 .bf16) (i : S512x2048.Idx) :
    k0_pay21 (F := Ideal) x w i = ∑ k : Fin 2048, x (ix2 (i 0) k) * w (ix3 0 k (i 1)) := by
  pointwise [k0_pay21]

/-- A point's product is the reference's projection. -/
theorem proj (c : Dev nD) (t : Fin cfg0.N) (i : S512x2048.Idx) (a : Fin 4) (b : Fin 4096) (n : Fin 14336)
    (h : t.val / 4 * 512 + (i 0).val = a.val * 4096 + b.val) (h' : n.val = t.val % 4 * 2048 + (i 1).val) :
    k0_pay21 (rows m c t) (iblk m c 2 t) i
      = PROJ (m ((c : Thread nD τ).loc main_arg0)) (m ((c : Thread nD τ).loc main_arg1))
          (m ((c : Thread nD τ).loc main_arg2)) (ix3 a b n) := by
  rw [product, PROJ, Cert.Reference2Ideal.Read.val_main_v17_apply]
  refine Finset.sum_congr rfl fun k _ => congrArg₂ (· * ·) ?_ ?_
  · refine (rows_at m c t (ix2 (i 0) k) a b h).trans ?_
    show NORM _ _ _ = NORM _ _ _
    generalize NORM _ _ = z
    refine congrArg z ?_
    blk_ext
  · refine (rd2 m c t (ix3 0 k (i 1)) n h').trans ?_
    rw [Cert.Reference2Ideal.Read.val_main_v16_apply, Cert.Reference2Ideal.Read.val_main_v15_apply]
    refine congrArg _ ?_
    blk_ext

/-- A place of the sixteen stored groups is a place of the product. -/
theorem groups6 (x : Vec Ideal S512x2048 .bf16) (w : Vec Ideal S1x2048x2048 .bf16) (y : S1x16x512x128.Idx)
    (i : S512x2048.Idx) (hi0 : (i 0).val = (y 2).val) (hi1 : (i 1).val = (y 1).val * 128 + (y 3).val) :
    View.canon (pieces6 x w) y = k0_pay21 x w i := by
  unfold pieces6
  canon_tiles x hh
  all_goals (open_payloads; pointwise; blk_ext)

theorem groups7 (x : Vec Ideal S512x2048 .bf16) (w : Vec Ideal S1x2048x2048 .bf16) (y : S1x16x512x128.Idx)
    (i : S512x2048.Idx) (hi0 : (i 0).val = (y 2).val) (hi1 : (i 1).val = (y 1).val * 128 + (y 3).val) :
    View.canon (pieces7 x w) y = k0_pay21 x w i := by
  unfold pieces7
  canon_tiles x hh
  all_goals (open_payloads; pointwise; blk_ext)

/-- The reference's three results over the kernel's arguments. -/
abbrev REF0 (X : FVec Ideal S4x4096x2048 .f32) (G : FVec Ideal S2x2048 .f32) : FVec Ideal S16384x2048 .bf16 :=
  Cert.Reference2Ideal.Read.val_main_v22 (F := Ideal) X G
abbrev REF1 (X : FVec Ideal S4x4096x2048 .f32) (G : FVec Ideal S2x2048 .f32) (W : FVec Ideal S2x2048x14336 .f32) :
    FVec Ideal S4x64x4096x128 .bf16 := Cert.Reference2Ideal.Read.val_main_v23 (F := Ideal) X G W
abbrev REF2 (X : FVec Ideal S4x4096x2048 .f32) (G : FVec Ideal S2x2048 .f32) (W : FVec Ideal S2x2048x14336 .f32) :
    FVec Ideal S4x48x4096x128 .f32 := Cert.Reference2Ideal.Read.val_main_v24 (F := Ideal) X G W

/-- The first result at a place is the normed input there, -/
theorem ref0_at (X : FVec Ideal S4x4096x2048 .f32) (G : FVec Ideal S2x2048 .f32) (e : S16384x2048.Idx) (a : Fin 4)
    (b : Fin 4096) (d : Fin 2048) (h : (e 0).val = a.val * 4096 + b.val) (h' : (e 1).val = d.val) :
    NORM X G (ix3 a b d) = REF0 X G e := by
  have h1 : (e 1).val < 2048 := (e 1).isLt
  rw [REF0, Cert.Reference2Ideal.Read.val_main_v22_apply, Cert.Reference2Ideal.Read.val_main_v21_apply]
  show _ = NORM X G _
  refine congrArg _ ?_
  blk_ext

/-- the second the projection, -/
theorem ref1_at (X : FVec Ideal S4x4096x2048 .f32) (G : FVec Ideal S2x2048 .f32) (W : FVec Ideal S2x2048x14336 .f32)
    (e : S4x64x4096x128.Idx) (a : Fin 4) (b : Fin 4096) (n : Fin 14336) (h0 : (e 0).val = a.val)
    (h1 : n.val = (e 1).val * 128 + (e 3).val) (h2 : (e 2).val = b.val) :
    PROJ X G W (ix3 a b n) = REF1 X G W e := by
  have l1 : (e 1).val < 64 := (e 1).isLt
  have l3 : (e 3).val < 128 := (e 3).isLt
  rw [REF1, Cert.Reference2Ideal.Read.val_main_v23_apply, Cert.Reference2Ideal.Read.val_main_v20_apply,
    Cert.Reference2Ideal.Read.val_main_v19_apply, Cert.Reference2Ideal.Read.val_main_v18_apply]
  show _ = PROJ X G W _
  refine congrArg _ ?_
  blk_ext

/-- and the third too. -/
theorem ref2_at (X : FVec Ideal S4x4096x2048 .f32) (G : FVec Ideal S2x2048 .f32) (W : FVec Ideal S2x2048x14336 .f32)
    (e : S4x48x4096x128.Idx) (a : Fin 4) (b : Fin 4096) (n : Fin 14336) (h0 : (e 0).val = a.val)
    (h1 : n.val = (e 1).val * 128 + (e 3).val) (h2 : (e 2).val = b.val) :
    PROJ X G W (ix3 a b n) = REF2 X G W e := by
  have l1 : (e 1).val < 48 := (e 1).isLt
  have l3 : (e 3).val < 128 := (e 3).isLt
  rw [REF2, Cert.Reference2Ideal.Read.val_main_v24_apply, Cert.Reference2Ideal.Read.val_main_v20_apply,
    Cert.Reference2Ideal.Read.val_main_v19_apply, Cert.Reference2Ideal.Read.val_main_v18_apply]
  refine congrArg _ ?_
  blk_ext

/-- The place `y` of a result's block at a point, at coordinates. -/
theorem emb3 (t : Fin cfg0.N) (y : S512x2048.Idx) :
    ((((cfg0.win 3).blk t).view.emb y) 0).val = t.val / 4 * 512 + (y 0).val
      ∧ ((((cfg0.win 3).blk t).view.emb y) 1).val = (y 1).val := by
  constructor <;> blk_simp [idx t]

theorem emb4 (t : Fin cfg0.N) (y : S1x16x512x128.Idx) :
    ((((cfg0.win 4).blk t).view.emb y) 0).val = t.val / 32
      ∧ ((((cfg0.win 4).blk t).view.emb y) 1).val = t.val % 4 * 16 + (y 1).val
      ∧ ((((cfg0.win 4).blk t).view.emb y) 2).val = t.val / 4 % 8 * 512 + (y 2).val
      ∧ ((((cfg0.win 4).blk t).view.emb y) 3).val = (y 3).val := by
  have h0 : (y 0).val < 1 := (y 0).isLt
  refine ⟨?_, ?_, ?_, ?_⟩ <;> blk_simp [idx t] <;> try omega

theorem emb5 (t : Fin cfg0.N) (y : S1x16x512x128.Idx) :
    ((((cfg0.win 5).blk t).view.emb y) 0).val = t.val / 32
      ∧ ((((cfg0.win 5).blk t).view.emb y) 1).val = min (t.val % 4) 2 * 16 + (y 1).val
      ∧ ((((cfg0.win 5).blk t).view.emb y) 2).val = t.val / 4 % 8 * 512 + (y 2).val
      ∧ ((((cfg0.win 5).blk t).view.emb y) 3).val = (y 3).val := by
  have h0 : (y 0).val < 1 := (y 0).isLt
  refine ⟨?_, ?_, ?_, ?_⟩ <;> blk_simp [idx t] <;> try omega

/-- The row block and the column block of the point whose columns the unrounded output's buffer holds. -/
theorem kept_val (t : Fin cfg0.N) : (kept t).val / 4 = t.val / 4 ∧ (kept t).val % 4 = min (t.val % 4) 2 := by
  unfold kept
  split
  · show (t.val - 1) / 4 = _ ∧ (t.val - 1) % 4 = _
    omega
  · omega

/-- What a point stores of the normalised rows at a place of its block is the reference's at the place's array index. -/
theorem point3 (c : Dev nD) (t : Fin cfg0.N) (y : S512x2048.Idx) (e : S16384x2048.Idx)
    (h0 : (e 0).val = t.val / 4 * 512 + (y 0).val) (h1 : (e 1).val = (y 1).val) :
    k0_pay19 (iblk m c 0 t) (iblk m c 1 t) y
      = REF0 (m ((c : Thread nD τ).loc main_arg0)) (m ((c : Thread nD τ).loc main_arg1)) e := by
  have he : (e 0).val < 16384 := (e 0).isLt
  refine (norm m c t y ⟨(e 0).val / 4096, by omega⟩ ⟨(e 0).val % 4096, by omega⟩ ?_).trans (ref0_at _ _ e _ _ _ ?_ h1)
  · show _ = (e 0).val / 4096 * 4096 + (e 0).val % 4096
    omega
  · show _ = (e 0).val / 4096 * 4096 + (e 0).val % 4096
    omega

/-- The projection's groups at a place, at the reference's coordinates. -/
theorem groups_at (c : Dev nD) (t : Fin cfg0.N) (y : S1x16x512x128.Idx) (i : S512x2048.Idx) (j a b z : ℕ)
    (hi0 : (i 0).val = (y 2).val) (hi1 : (i 1).val = (y 1).val * 128 + (y 3).val)
    (ha : a < 4) (hb : b < 4096) (hn : j * 128 + z < 14336)
    (h0 : a = t.val / 32) (h1 : j = t.val % 4 * 16 + (y 1).val) (h2 : b = t.val / 4 % 8 * 512 + (y 2).val)
    (h3 : z = (y 3).val) :
    k0_pay21 (rows m c t) (iblk m c 2 t) i
      = PROJ (m ((c : Thread nD τ).loc main_arg0)) (m ((c : Thread nD τ).loc main_arg1))
          (m ((c : Thread nD τ).loc main_arg2)) (ix3 ⟨a, ha⟩ ⟨b, hb⟩ ⟨j * 128 + z, hn⟩) := by
  have ht := (idx t).2.2.2.2.2.2
  refine proj m c t i _ _ _ ?_ ?_
  · show _ = a * 4096 + b
    omega
  · show j * 128 + z = _
    omega

theorem point4 (c : Dev nD) (t : Fin cfg0.N) (y : S1x16x512x128.Idx) (e : S4x64x4096x128.Idx)
    (h0 : (e 0).val = t.val / 32) (h1 : (e 1).val = t.val % 4 * 16 + (y 1).val)
    (h2 : (e 2).val = t.val / 4 % 8 * 512 + (y 2).val) (h3 : (e 3).val = (y 3).val) :
    View.canon (pieces6 (rows m c t) (iblk m c 2 t)) y
      = REF1 (m ((c : Thread nD τ).loc main_arg0)) (m ((c : Thread nD τ).loc main_arg1))
          (m ((c : Thread nD τ).loc main_arg2)) e := by
  have l0 : (e 0).val < 4 := (e 0).isLt
  have l1 : (e 1).val < 64 := (e 1).isLt
  have l2 : (e 2).val < 4096 := (e 2).isLt
  have l3 : (e 3).val < 128 := (e 3).isLt
  have y1 : (y 1).val < 16 := (y 1).isLt
  have y3 : (y 3).val < 128 := (y 3).isLt
  have hn : (e 1).val * 128 + (e 3).val < 14336 := by omega
  have hc : (y 1).val * 128 + (y 3).val < 2048 := by omega
  refine (groups6 _ _ y (ix2 (y 2) ⟨(y 1).val * 128 + (y 3).val, hc⟩) rfl rfl).trans ?_
  refine (groups_at m c t y _ _ _ _ _ rfl rfl l0 l2 hn h0 h1 h2 h3).trans (ref1_at _ _ _ e _ _ _ rfl rfl rfl)

theorem point5 (c : Dev nD) (t : Fin cfg0.N) (y : S1x16x512x128.Idx) (e : S4x48x4096x128.Idx)
    (h0 : (e 0).val = t.val / 32) (h1 : (e 1).val = min (t.val % 4) 2 * 16 + (y 1).val)
    (h2 : (e 2).val = t.val / 4 % 8 * 512 + (y 2).val) (h3 : (e 3).val = (y 3).val) :
    View.canon (pieces7 (rows m c (kept t)) (iblk m c 2 (kept t))) y
      = REF2 (m ((c : Thread nD τ).loc main_arg0)) (m ((c : Thread nD τ).loc main_arg1))
          (m ((c : Thread nD τ).loc main_arg2)) e := by
  have l0 : (e 0).val < 4 := (e 0).isLt
  have l1 : (e 1).val < 48 := (e 1).isLt
  have l2 : (e 2).val < 4096 := (e 2).isLt
  have l3 : (e 3).val < 128 := (e 3).isLt
  have y1 : (y 1).val < 16 := (y 1).isLt
  have y3 : (y 3).val < 128 := (y 3).isLt
  have hn : (e 1).val * 128 + (e 3).val < 14336 := by omega
  have hc : (y 1).val * 128 + (y 3).val < 2048 := by omega
  obtain ⟨k0, k1⟩ := kept_val t
  refine (groups7 _ _ y (ix2 (y 2) ⟨(y 1).val * 128 + (y 3).val, hc⟩) rfl rfl).trans ?_
  refine (groups_at m c (kept t) y _ _ _ _ _ rfl rfl l0 l2 hn (by omega) (by rw [k1]; exact h1) (by rw [k0]; exact h2)
    h3).trans (ref2_at _ _ _ e _ _ _ rfl rfl rfl)

/-- The three result arrays after the run. -/
theorem final3 (c : Dev nD) : (dats m 0 c).arrAt 3 (cfgs 0).N
    = REF0 (m ((c : Thread nD τ).loc main_arg0)) (m ((c : Thread nD τ).loc main_arg1)) := by
  refine (dats m 0 c).arrAt_eq_of_covers 3 _ (by decide +kernel) fun t _ y => ?_
  obtain ⟨h0, h1⟩ := emb3 t y
  blk_simp
  rw [after0_3]
  exact point3 m c t y _ h0 h1

theorem final4 (c : Dev nD) : (dats m 0 c).arrAt 4 (cfgs 0).N
    = REF1 (m ((c : Thread nD τ).loc main_arg0)) (m ((c : Thread nD τ).loc main_arg1))
        (m ((c : Thread nD τ).loc main_arg2)) := by
  refine (dats m 0 c).arrAt_eq_of_covers 4 _ (by decide +kernel) fun t _ y => ?_
  obtain ⟨h0, h1, h2, h3⟩ := emb4 t y
  blk_simp
  rw [after0_4]
  exact point4 m c t y _ h0 h1 h2 h3

theorem final5 (c : Dev nD) : (dats m 0 c).arrAt 5 (cfgs 0).N
    = REF2 (m ((c : Thread nD τ).loc main_arg0)) (m ((c : Thread nD τ).loc main_arg1))
        (m ((c : Thread nD τ).loc main_arg2)) := by
  refine (dats m 0 c).arrAt_eq_of_covers 5 _ (by decide +kernel) fun t _ y => ?_
  obtain ⟨h0, h1, h2, h3⟩ := emb5 t y
  blk_simp
  rw [after0_5]
  exact point5 m c t y _ h0 h1 h2 h3

end Cert.Kernel2Ideal.RefValue

namespace Cert.Proof.InProj

/-- The kernel's run leaves its arguments and every semaphore as they were, over any float carrier. -/
theorem frame_any {F : FTy → Type} [FloatOps F] (m : (ℓ : Loc Cert.Kernel2Ideal.nD Cert.Kernel2Ideal.τ Cert.Kernel2Ideal.sig) → Buf (Elt F) ℓ)
    (ρ : Dev Cert.Kernel2Ideal.nD → PrngReg) :
    θ_run (Cert.Kernel2Ideal.defs (F := F)) (onTc (τ := Cert.Kernel2Ideal.τ) (Cert.Kernel2Ideal.main (F := F))) ⟨m, fun _ => 0, ρ⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0) :=
  θ_run_and (Cert.Kernel2Ideal.Gen.frame_of m ρ (Cert.Kernel2Ideal.Body.dats m) (Cert.Kernel2Ideal.Body.A_eq m)
      (Cert.Kernel2Ideal.Body.run_main m ρ))
    ((θ_run Cert.Kernel2Ideal.defs _ _).mono (fun _ h => h.2) (Cert.Kernel2Ideal.Body.run_main_quiescent m ρ))

/-- The kernel and its idealisation have one text: one body, -/
theorem body_eq : Cert.Kernel2.defs₀ (F := Bits) = Cert.Kernel2Ideal.defs₀ (F := Bits) := by
  unfold Cert.Kernel2.defs₀ Cert.Kernel2Ideal.defs₀
  refine congrArg Defs.onTc (funext fun l => funext fun x => ?_)
  match l, x with
  | 0, (t, s) => rfl
  | ⟨_ + 1, h⟩, _ => exact absurd h (Nat.not_lt.2 (Nat.le_add_left _ _))

/-- one pipeline. -/
theorem defs_eq : Cert.Kernel2.defs (F := Bits) = Cert.Kernel2Ideal.defs (F := Bits) :=
  congrArg (Pipeline.defs (Cert.Kernel2Ideal.pcfgs (F := Bits))) body_eq

/-- The frames of the three programs. -/
theorem frame_P : Cert.quiescent_Kernel2 := fun m ρ _ => by
  have h := frame_any (F := Bits) m ρ
  rw [← defs_eq] at h
  exact h
theorem frame_PI : Cert.quiescent_Kernel2Ideal := fun m ρ _ => frame_any (F := Ideal) m ρ
theorem frame_RI : Cert.quiescent_Reference2Ideal := fun m ρ _ =>
  (θ_run Cert.Reference2Ideal.defs _ _).mono (fun r h => ⟨fun c => (h c).2.2.2,
      Idealize.ShloMosaic.sem_eq_zero_of_no_sems (by decide) r.2⟩)
    (Cert.Reference2Ideal.Value.run (F := Ideal) m ρ)

/-- No operation of the kernel was rewritten. -/
theorem preserves : Cert.preserves_Kernel2_Kernel2Ideal := trivial

/-- On arguments that agree the two programs leave the same three results. -/
theorem algebraic : Cert.algebraic_Kernel2Ideal_Reference2Ideal := by
  intro m ρ m' ρ' _ hagree
  refine ⟨fun c => Cert.Kernel2Ideal.RefValue.REF0 (m ((c.tc : Thread _ _).loc Cert.Kernel2Ideal.main_arg0))
      (m ((c.tc : Thread _ _).loc Cert.Kernel2Ideal.main_arg1)),
    fun c => Cert.Kernel2Ideal.RefValue.REF1 (m ((c.tc : Thread _ _).loc Cert.Kernel2Ideal.main_arg0))
      (m ((c.tc : Thread _ _).loc Cert.Kernel2Ideal.main_arg1)) (m ((c.tc : Thread _ _).loc Cert.Kernel2Ideal.main_arg2)),
    fun c => Cert.Kernel2Ideal.RefValue.REF2 (m ((c.tc : Thread _ _).loc Cert.Kernel2Ideal.main_arg0))
      (m ((c.tc : Thread _ _).loc Cert.Kernel2Ideal.main_arg1)) (m ((c.tc : Thread _ _).loc Cert.Kernel2Ideal.main_arg2)), ?_, ?_⟩
  · refine (θ_run Cert.Kernel2Ideal.defs _ _).mono (fun _ h c => ?_)
      (θ_run_and (Cert.Kernel2Ideal.Body.run_main (F := Ideal) m ρ) (frame_any (F := Ideal) m ρ))
    obtain ⟨h, hf⟩ := h
    exact ⟨((h c).1 3).trans (Cert.Kernel2Ideal.RefValue.final3 m c),
      ((h c).1 4).trans (Cert.Kernel2Ideal.RefValue.final4 m c),
      ((h c).1 5).trans (Cert.Kernel2Ideal.RefValue.final5 m c), hf.1 c⟩
  · refine (θ_run Cert.Reference2Ideal.defs _ _).mono
      (fun _ h c => ⟨(h c).1.trans ?_, (h c).2.1.trans ?_, (h c).2.2.1.trans ?_, (h c).2.2.2⟩)
      (Cert.Reference2Ideal.Value.run (F := Ideal) m' ρ')
    · rw [(hagree c).1, (hagree c).2.1]
      exact Cert.Reference2Ideal.Read.val_main_v22_eq _ _
    · rw [(hagree c).1, (hagree c).2.1, (hagree c).2.2]
      exact Cert.Reference2Ideal.Read.val_main_v23_eq _ _ _
    · rw [(hagree c).1, (hagree c).2.1, (hagree c).2.2]
      exact Cert.Reference2Ideal.Read.val_main_v24_eq _ _ _

end Cert.Proof.InProj

end
-- ==== Proof.Merge.lean ====
/- The gated merge of the three branches (Kernel3): what its result array holds after the run is the reference's term,
   the sum over the branches of the gate times the branch's up-projection, and the claims about the two programs.
   Hand-written, untrusted. -/
module

public import proofs.«01_k».proof.Defs
public import proofs.«01_k».proof.Proof.Gen.Kernel3.Frame
public import proofs.«01_k».proof.Proof.Gen.Kernel3Ideal.Value
public import proofs.«01_k».proof.Proof.Gen.Reference3Ideal.Read
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel3Ideal.RefValue

open Cert.Kernel3Ideal Cert.Kernel3Ideal.Gen

variable (m : (ℓ : Loc nD τ sig) → Buf (Elt Ideal) ℓ)

/-- The block index of every window at every grid point. -/
theorem idx : ∀ t : Fin cfg0.N, win0_0.index t = ![t.val / 4, 0] ∧ win0_1.index t = ![0, 0, 16 + t.val % 4]
    ∧ win0_2.index t = ![0, 0, 20 + t.val % 4] ∧ win0_3.index t = ![0, 0, 24 + t.val % 4]
    ∧ win0_4.index t = ![0, 0, t.val % 4] ∧ win0_5.index t = ![t.val / 4 % 8, t.val / 32]
    ∧ win0_6.index t = ![t.val / 4, 0] ∧ win0_7.index t = ![t.val / 4, 0]
    ∧ win0_8.index t = ![0, t.val % 4] ∧ win0_9.index t = ![0, t.val % 4] ∧ win0_10.index t = ![0, t.val % 4]
    ∧ win0_11.index t = ![t.val / 4, t.val % 4] ∧ t.val < 128 :=
  (by decide +kernel : ∀ t : Fin grid0.N, _)

/-- The reference's term over the kernel's arguments. -/
abbrev REF (H : FVec Ideal S4x4096x2048 .f32) (W : FVec Ideal S2x2048x14336 .f32) (B : FVec Ideal S2x6144 .f32)
    (YA : FVec Ideal S4x4096x512 .f32) (OB : FVec Ideal S4x4096x512 .f32) (OC : FVec Ideal S4x4096x1024 .f32)
    (UA : FVec Ideal S2x512x2048 .f32) (UB : FVec Ideal S2x512x2048 .f32) (UC : FVec Ideal S2x1024x2048 .f32) :
    FVec Ideal S16384x2048 .bf16 := Cert.Reference3Ideal.Read.val_main_v37 (F := Ideal) H W B YA OB OC UA UB UC

/-- The place `y` of the result's block at a point, at coordinates. -/
theorem emb_val (t : Fin cfg0.N) (y : S512x512.Idx) :
    ((((cfg0.win 11).blk t).view.emb y) 0).val = t.val / 4 * 512 + (y 0).val
      ∧ ((((cfg0.win 11).blk t).view.emb y) 1).val = t.val % 4 * 512 + (y 1).val := by
  constructor <;> blk_simp [idx t]

/-- The rows of the normed input a point reads. -/
theorem rd0 (c : Dev nD) (t : Fin cfg0.N) (y : S512x2048.Idx) (a : Fin 4) (b : Fin 4096)
    (h : t.val / 4 * 512 + (y 0).val = a.val * 4096 + b.val) :
    iblk m c 0 t y = m ((c : Thread nD τ).loc main_arg0) (ix3 a b (y 1)) := by
  blk_simp [iblk]; entry_read; pointwise; blk_ext [idx t]

/-- The columns of the first gate's weight a point reads. -/
theorem rd1 (c : Dev nD) (t : Fin cfg0.N) (y : S1x2048x512.Idx) (b : Fin 14336)
    (h : b.val = 8192 + t.val % 4 * 512 + (y 2).val) :
    iblk m c 1 t y = m ((c : Thread nD τ).loc main_arg1) (ix3 0 (y 1) b) := by
  blk_simp [iblk]; entry_read; pointwise; blk_ext [idx t]

/-- The columns of the second gate's weight a point reads. -/
theorem rd2 (c : Dev nD) (t : Fin cfg0.N) (y : S1x2048x512.Idx) (b : Fin 14336)
    (h : b.val = 10240 + t.val % 4 * 512 + (y 2).val) :
    iblk m c 2 t y = m ((c : Thread nD τ).loc main_arg1) (ix3 0 (y 1) b) := by
  blk_simp [iblk]; entry_read; pointwise; blk_ext [idx t]

/-- The columns of the third gate's weight a point reads. -/
theorem rd3 (c : Dev nD) (t : Fin cfg0.N) (y : S1x2048x512.Idx) (b : Fin 14336)
    (h : b.val = 12288 + t.val % 4 * 512 + (y 2).val) :
    iblk m c 3 t y = m ((c : Thread nD τ).loc main_arg1) (ix3 0 (y 1) b) := by
  blk_simp [iblk]; entry_read; pointwise; blk_ext [idx t]

/-- The part of the gates' bias a point reads. -/
theorem rd4 (c : Dev nD) (t : Fin cfg0.N) (y : S3x1x512.Idx) (b : Fin 6144)
    (h : b.val = (y 0).val * 2048 + t.val % 4 * 512 + (y 2).val) :
    iblk m c 4 t y = m ((c : Thread nD τ).loc main_arg2) (ix2 0 b) := by
  blk_simp [iblk]; entry_read; pointwise; blk_ext [idx t]

/-- The same, a gate's row given. -/
theorem rd4' (c : Dev nD) (t : Fin cfg0.N) (g : Fin 3) (z : Fin 512) (b : Fin 6144) (n : ℕ) (hn : g.val * 2048 = n)
    (h : b.val = n + (t.val % 4 * 512 + z.val)) :
    iblk m c 4 t (ix3 g 0 z) = m ((c : Thread nD τ).loc main_arg2) (ix2 0 b) :=
  rd4 m c t (ix3 g 0 z) b (by show b.val = g.val * 2048 + t.val % 4 * 512 + z.val; omega)

/-- The rows of the first branch a point reads. -/
theorem rd5 (c : Dev nD) (t : Fin cfg0.N) (y : S512x512.Idx) (a : Fin 4) (b : Fin 4096)
    (h : t.val / 4 * 512 + (y 0).val = a.val * 4096 + b.val) :
    iblk m c 5 t y = m ((c : Thread nD τ).loc main_arg3) (ix3 a b (y 1)) := by
  blk_simp [iblk]; entry_read; pointwise; blk_ext [idx t]

/-- The rows of the second branch a point reads. -/
theorem rd6 (c : Dev nD) (t : Fin cfg0.N) (y : S512x512.Idx) (a : Fin 4) (b : Fin 4096)
    (h : t.val / 4 * 512 + (y 0).val = a.val * 4096 + b.val) :
    iblk m c 6 t y = m ((c : Thread nD τ).loc main_arg4) (ix3 a b (y 1)) := by
  blk_simp [iblk]; entry_read; pointwise; blk_ext [idx t]

/-- The rows of the third branch a point reads. -/
theorem rd7 (c : Dev nD) (t : Fin cfg0.N) (y : S512x1024.Idx) (a : Fin 4) (b : Fin 4096)
    (h : t.val / 4 * 512 + (y 0).val = a.val * 4096 + b.val) :
    iblk m c 7 t y = m ((c : Thread nD τ).loc main_arg5) (ix3 a b (y 1)) := by
  blk_simp [iblk]; entry_read; pointwise; blk_ext [idx t]

/-- The columns of the first up-projection a point reads. -/
theorem rd8 (c : Dev nD) (t : Fin cfg0.N) (y : S512x512.Idx) (b : Fin 2048)
    (h : b.val = t.val % 4 * 512 + (y 1).val) :
    iblk m c 8 t y = m ((c : Thread nD τ).loc main_arg6) (ix3 0 (y 0) b) := by
  blk_simp [iblk]; entry_read; pointwise; blk_ext [idx t]

/-- The columns of the second up-projection a point reads. -/
theorem rd9 (c : Dev nD) (t : Fin cfg0.N) (y : S512x512.Idx) (b : Fin 2048)
    (h : b.val = t.val % 4 * 512 + (y 1).val) :
    iblk m c 9 t y = m ((c : Thread nD τ).loc main_arg7) (ix3 0 (y 0) b) := by
  blk_simp [iblk]; entry_read; pointwise; blk_ext [idx t]

/-- The columns of the third up-projection a point reads. -/
theorem rd10 (c : Dev nD) (t : Fin cfg0.N) (y : S1024x512.Idx) (b : Fin 2048)
    (h : b.val = t.val % 4 * 512 + (y 1).val) :
    iblk m c 10 t y = m ((c : Thread nD τ).loc main_arg8) (ix3 0 (y 0) b) := by
  blk_simp [iblk]; entry_read; pointwise; blk_ext [idx t]

/-- A branch's term from equal gate arguments and equal projections. -/
theorem branch {z z' u u' : EReal} (hz : z = z') (hu : u = u') :
    Ideal.div 1 (1 + Ideal.exp (0 - z)) * u = Ideal.div 1 (1 + Ideal.exp (-z')) * u' := by
  rw [hz, hu, zero_sub]

set_option maxHeartbeats 400000 in
/-- What a point stores at a place of its block is the reference's term at the place's array index. -/
theorem point (c : Dev nD) (t : Fin cfg0.N) (y : S512x512.Idx) (e : S16384x2048.Idx)
    (g0 : (e 0).val = t.val / 4 * 512 + (y 0).val) (g1 : (e 1).val = t.val % 4 * 512 + (y 1).val) :
    k0_pay1 (k0_pay2 (iblk m c 0 t))
      (k0_pay3 (iblk m c 0 t) (iblk m c 1 t) (View.ld (iblk m c 4 t) r0_2) (iblk m c 5 t) (iblk m c 8 t))
      (k0_pay4 (iblk m c 0 t) (iblk m c 2 t) (View.ld (iblk m c 4 t) r0_4)) (FloatOps.ofBits FTy.f32 1065353216#32)
      (iblk m c 6 t) (iblk m c 9 t) (iblk m c 3 t) (View.ld (iblk m c 4 t) r0_5) (iblk m c 7 t) (iblk m c 10 t) y
      = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) e := by
  pointwise [k0_pay1, k0_pay2, k0_pay3, k0_pay4, REF]
  pointwise [Cert.Reference3Ideal.Read.val_main_v37, Cert.Reference3Ideal.Read.val_main_v36,
    Cert.Reference3Ideal.Read.val_main_v35, Cert.Reference3Ideal.Read.val_main_v34,
    Cert.Reference3Ideal.Read.val_main_v33, Cert.Reference3Ideal.Read.val_main_v32,
    Cert.Reference3Ideal.Read.val_main_v31, Cert.Reference3Ideal.Read.val_main_v30,
    Cert.Reference3Ideal.Read.val_main_v29, Cert.Reference3Ideal.Read.val_main_v28,
    Cert.Reference3Ideal.Read.val_main_v27, Cert.Reference3Ideal.Read.val_main_v26,
    Cert.Reference3Ideal.Read.val_main_v25, Cert.Reference3Ideal.Read.val_main_v24,
    Cert.Reference3Ideal.Read.val_main_v23, Cert.Reference3Ideal.Read.val_main_v22,
    Cert.Reference3Ideal.Read.val_main_v21, Cert.Reference3Ideal.Read.val_main_v20,
    Cert.Reference3Ideal.Read.val_main_v19, Cert.Reference3Ideal.Read.val_main_v18,
    Cert.Reference3Ideal.Read.val_main_v17, Cert.Reference3Ideal.Read.val_main_v16,
    Cert.Reference3Ideal.Read.val_main_v15, Cert.Reference3Ideal.Read.val_main_v14,
    Cert.Reference3Ideal.Read.val_main_v13, Cert.Reference3Ideal.Read.val_main_v12,
    Cert.Reference3Ideal.Read.val_main_v11, Cert.Reference3Ideal.Read.val_main_v10,
    Cert.Reference3Ideal.Read.val_main_v9, Cert.Reference3Ideal.Read.val_main_v8,
    Cert.Reference3Ideal.Read.val_main_v7, Cert.Reference3Ideal.Read.val_main_v6,
    Cert.Reference3Ideal.Read.val_main_v5, Cert.Reference3Ideal.Read.val_main_v4,
    Cert.Reference3Ideal.Read.val_main_v3, Cert.Reference3Ideal.Read.val_main_v2,
    Cert.Reference3Ideal.Read.val_main_v1, Cert.Reference3Ideal.Read.val_main_v0,
    Cert.Reference3Ideal.Read.val_main_cst, Cert.Reference3Ideal.Read.val_main_cst_0]
  have h0' : t.val / 4 * 512 + (y 0).val = (e 0).val / 4096 * 4096 + (e 0).val % 4096 := by omega
  refine congrArg₂ (· + ·) (congrArg₂ (· + ·) (branch (congrArg₂ (· + ·) ?_ ?_) ?_) (branch (congrArg₂ (· + ·) ?_ ?_) ?_))
    (branch (congrArg₂ (· + ·) ?_ ?_) ?_)
  · exact Finset.sum_congr rfl fun k _ => congrArg₂ (· * ·) (rd0 m c t (ix2 (y 0) k) _ _ h0')
      (rd1 m c t (ix3 0 k (y 1)) _ (by show 8192 + (e 1).val = 8192 + t.val % 4 * 512 + (y 1).val; omega))
  · exact rd4' m c t 0 (y 1) _ 0 (by decide) (by show (e 1).val = 0 + (t.val % 4 * 512 + (y 1).val); omega)
  · exact Finset.sum_congr rfl fun k _ => congrArg₂ (· * ·) (rd5 m c t (ix2 (y 0) k) _ _ h0') (rd8 m c t (ix2 k (y 1)) (e 1) g1)
  · exact Finset.sum_congr rfl fun k _ => congrArg₂ (· * ·) (rd0 m c t (ix2 (y 0) k) _ _ h0')
      (rd2 m c t (ix3 0 k (y 1)) _ (by show 8192 + (2048 + (e 1).val) = 10240 + t.val % 4 * 512 + (y 1).val; omega))
  · exact rd4' m c t 1 (y 1) _ 2048 (by decide) (by show 2048 + (e 1).val = 2048 + (t.val % 4 * 512 + (y 1).val); omega)
  · exact Finset.sum_congr rfl fun k _ => congrArg₂ (· * ·) (rd6 m c t (ix2 (y 0) k) _ _ h0') (rd9 m c t (ix2 k (y 1)) (e 1) g1)
  · exact Finset.sum_congr rfl fun k _ => congrArg₂ (· * ·) (rd0 m c t (ix2 (y 0) k) _ _ h0')
      (rd3 m c t (ix3 0 k (y 1)) _ (by show 8192 + (4096 + (e 1).val) = 12288 + t.val % 4 * 512 + (y 1).val; omega))
  · exact rd4' m c t 2 (y 1) _ 4096 (by decide) (by show 4096 + (e 1).val = 4096 + (t.val % 4 * 512 + (y 1).val); omega)
  · exact Finset.sum_congr rfl fun k _ => congrArg₂ (· * ·) (rd7 m c t (ix2 (y 0) k) _ _ h0') (rd10 m c t (ix2 k (y 1)) (e 1) g1)

/-- The result array after the run. -/
theorem final (c : Dev nD) : (dats m 0 c).arrAt 11 (cfgs 0).N
    = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 11 _ (by decide +kernel) fun t _ y => ?_
  obtain ⟨h0, h1⟩ := emb_val t y
  blk_simp
  rw [after0_11]; frame_out
  exact point m c t y _ h0 h1

end Cert.Kernel3Ideal.RefValue

namespace Cert.Proof.Merge

/-- The frames of the three programs. -/
theorem frame_P : Cert.quiescent_Kernel3 := fun m ρ _ => Cert.Kernel3.Gen.frame m ρ
theorem frame_PI : Cert.quiescent_Kernel3Ideal := fun m ρ _ => Cert.Kernel3Ideal.Gen.frame m ρ
theorem frame_RI : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

/-- No operation of the kernel was rewritten. -/
theorem preserves : Cert.preserves_Kernel3_Kernel3Ideal := trivial

/-- On arguments that agree the two programs leave the same result. -/
theorem algebraic : Cert.algebraic_Kernel3Ideal_Reference3Ideal := by
  intro m ρ m' ρ' _ hagree
  refine ⟨fun c => Cert.Kernel3Ideal.RefValue.REF
    (m ((c.tc : Thread _ _).loc Cert.Kernel3Ideal.main_arg0)) (m ((c.tc : Thread _ _).loc Cert.Kernel3Ideal.main_arg1)) (m ((c.tc : Thread _ _).loc Cert.Kernel3Ideal.main_arg2)) (m ((c.tc : Thread _ _).loc Cert.Kernel3Ideal.main_arg3)) (m ((c.tc : Thread _ _).loc Cert.Kernel3Ideal.main_arg4)) (m ((c.tc : Thread _ _).loc Cert.Kernel3Ideal.main_arg5)) (m ((c.tc : Thread _ _).loc Cert.Kernel3Ideal.main_arg6)) (m ((c.tc : Thread _ _).loc Cert.Kernel3Ideal.main_arg7)) (m ((c.tc : Thread _ _).loc Cert.Kernel3Ideal.main_arg8)), ?_, ?_⟩
  · exact (θ_run Cert.Kernel3Ideal.defs _ _).mono
      (fun _ h c => ⟨(h c).1.trans (Cert.Kernel3Ideal.RefValue.final m c), (h c).2⟩)
      (Cert.Kernel3Ideal.Value.run_blocks (F := Ideal) m ρ)
  · refine (θ_run Cert.Reference3Ideal.defs _ _).mono (fun _ h c => ⟨(h c).1.trans ?_, (h c).2⟩)
      (Cert.Reference3Ideal.Value.run (F := Ideal) m' ρ')
    obtain ⟨e0, e1, e2, e3, e4, e5, e6, e7, e8⟩ := hagree c
    rw [Cert.Reference3Ideal.Read.val_main_v37_eq, e0, e1, e2, e3, e4, e5, e6, e7, e8]

end Cert.Proof.Merge

end
-- ==== Proof.WoResidual.lean ====
/- The output projection with its residual (Kernel4): what its result array holds after the run is the reference's
   term `x + merged · w_o[0]`, and the claims about the two programs. Hand-written, untrusted. -/
module

public import proofs.«01_k».proof.Defs
public import proofs.«01_k».proof.Proof.Gen.Kernel4.Frame
public import proofs.«01_k».proof.Proof.Gen.Kernel4Ideal.Value
public import proofs.«01_k».proof.Proof.Gen.Reference4Ideal.Read
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel4Ideal.RefValue

open Cert.Kernel4Ideal Cert.Kernel4Ideal.Gen

variable (m : (ℓ : Loc nD τ sig) → Buf (Elt Ideal) ℓ)

/-- The block index of every window at every grid point. -/
theorem idx : ∀ t : Fin cfg0.N, win0_0.index t = ![t.val / 2, 0] ∧ win0_1.index t = ![0, t.val % 2]
    ∧ win0_2.index t = ![t.val / 2, t.val % 2] ∧ win0_3.index t = ![t.val / 2, t.val % 2] ∧ t.val < 64 :=
  (by decide +kernel : ∀ t : Fin grid0.N, _)

/-- The reference's term over the kernel's arguments. -/
abbrev REF (X : FVec Ideal S4x4096x2048 .f32) (W : FVec Ideal S2x2048x2048 .f32) (R : FVec Ideal S4x4096x2048 .f32) :
    FVec Ideal S16384x2048 .f32 := Cert.Reference4Ideal.Read.val_main_v4 (F := Ideal) X W R

/-- The place `y` of the result's block at a point, at coordinates. -/
theorem emb_val (t : Fin cfg0.N) (y : S512x1024.Idx) :
    ((((cfg0.win 3).blk t).view.emb y) 0).val = t.val / 2 * 512 + (y 0).val
      ∧ ((((cfg0.win 3).blk t).view.emb y) 1).val = t.val % 2 * 1024 + (y 1).val := by
  constructor <;> blk_simp [idx t]

/-- The rows of the merged branches a point reads. -/
theorem rd0 (c : Dev nD) (t : Fin cfg0.N) (y : S512x2048.Idx) (a : Fin 4) (b : Fin 4096)
    (h : t.val / 2 * 512 + (y 0).val = a.val * 4096 + b.val) :
    iblk m c 0 t y = m ((c : Thread nD τ).loc main_arg0) (ix3 a b (y 1)) := by
  blk_simp [iblk]; entry_read; pointwise; blk_ext [idx t]

/-- The columns of the weight a point reads. -/
theorem rd1 (c : Dev nD) (t : Fin cfg0.N) (y : S2048x1024.Idx) (b : Fin 2048)
    (h : t.val % 2 * 1024 + (y 1).val = b.val) :
    iblk m c 1 t y = m ((c : Thread nD τ).loc main_arg1) (ix3 0 (y 0) b) := by
  blk_simp [iblk]; entry_read; pointwise; blk_ext [idx t]

/-- The block of the residual a point reads. -/
theorem rd2 (c : Dev nD) (t : Fin cfg0.N) (y : S512x1024.Idx) (a : Fin 4) (b : Fin 4096) (d : Fin 2048)
    (h : t.val / 2 * 512 + (y 0).val = a.val * 4096 + b.val) (h' : t.val % 2 * 1024 + (y 1).val = d.val) :
    iblk m c 2 t y = m ((c : Thread nD τ).loc main_arg2) (ix3 a b d) := by
  blk_simp [iblk]; entry_read; pointwise; blk_ext [idx t]

/-- What a point stores at a place of its block is the reference's term at the place's array index. -/
theorem point (c : Dev nD) (t : Fin cfg0.N) (y) : k0_pay1 (iblk m c 2 t) (iblk m c 0 t) (iblk m c 1 t) y
    = REF (m ((c : Thread nD τ).loc main_arg0)) (m ((c : Thread nD τ).loc main_arg1)) (m ((c : Thread nD τ).loc main_arg2))
        (((cfg0.win 3).blk t).view.emb y) := by
  obtain ⟨h0, h1⟩ := emb_val t y
  pointwise [k0_pay1, REF, Cert.Reference4Ideal.Read.val_main_v4, Cert.Reference4Ideal.Read.val_main_v3,
    Cert.Reference4Ideal.Read.val_main_v2, Cert.Reference4Ideal.Read.val_main_v1, Cert.Reference4Ideal.Read.val_main_v0]
  have h0' : t.val / 2 * 512 + (y 0).val
      = (((cfg0.win 3).blk t).view.emb y 0).val / 4096 * 4096 + (((cfg0.win 3).blk t).view.emb y 0).val % 4096 := by omega
  exact congrArg₂ (· + ·) (rd2 m c t y _ _ _ h0' h1.symm) (Finset.sum_congr rfl fun k _ =>
    congrArg₂ (· * ·) (rd0 m c t (ix2 (y 0) k) _ _ h0') (rd1 m c t (ix2 k (y 1)) _ h1.symm))

/-- The result array after the run. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.Kernel4Ideal.RefValue

namespace Cert.Proof.WoResidual

/-- The frames of the three programs. -/
theorem frame_P : Cert.quiescent_Kernel4 := fun m ρ _ => Cert.Kernel4.Gen.frame m ρ
theorem frame_PI : Cert.quiescent_Kernel4Ideal := fun m ρ _ => Cert.Kernel4Ideal.Gen.frame m ρ
theorem frame_RI : Cert.quiescent_Reference4Ideal := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)

/-- No operation of the kernel was rewritten. -/
theorem preserves : Cert.preserves_Kernel4_Kernel4Ideal := trivial

/-- On arguments that agree the two programs leave the same result. -/
theorem algebraic : Cert.algebraic_Kernel4Ideal_Reference4Ideal := by
  intro m ρ m' ρ' _ hagree
  refine ⟨fun c => Cert.Kernel4Ideal.RefValue.REF (m ((c.tc : Thread _ _).loc Cert.Kernel4Ideal.main_arg0))
    (m ((c.tc : Thread _ _).loc Cert.Kernel4Ideal.main_arg1)) (m ((c.tc : Thread _ _).loc Cert.Kernel4Ideal.main_arg2)), ?_, ?_⟩
  · exact (θ_run Cert.Kernel4Ideal.defs _ _).mono
      (fun _ h c => ⟨(h c).1.trans (Cert.Kernel4Ideal.RefValue.final m c), (h c).2⟩)
      (Cert.Kernel4Ideal.Value.run_blocks (F := Ideal) m ρ)
  · refine (θ_run Cert.Reference4Ideal.defs _ _).mono (fun _ h c => ⟨(h c).1.trans ?_, (h c).2⟩)
      (Cert.Reference4Ideal.Value.run (F := Ideal) m' ρ')
    rw [(hagree c).1, (hagree c).2.1, (hagree c).2.2]
    rfl

end Cert.Proof.WoResidual

end
-- ==== Proof.FinalNorm.lean ====
/- The final RMS norm (Kernel5): what its result array holds after the run is the reference's norm of every row,
   and the claims about the two programs. Hand-written, untrusted. -/
module

public import proofs.«01_k».proof.Defs
public import proofs.«01_k».proof.Proof.Gen.Kernel5.Frame
public import proofs.«01_k».proof.Proof.Gen.Kernel5Ideal.Value
public import proofs.«01_k».proof.Proof.Gen.Reference5Ideal.Read
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel5Ideal.RefValue

open Cert.Kernel5Ideal Cert.Kernel5Ideal.Gen

variable (m : (ℓ : Loc nD τ sig) → Buf (Elt Ideal) ℓ)

/-- The block index of every window at every grid point. -/
theorem idx : ∀ t : Fin cfg0.N, win0_0.index t = ![t.val, 0] ∧ win0_1.index t = ![0, 0]
    ∧ win0_2.index t = ![t.val, 0] ∧ t.val < 32 :=
  (by decide +kernel : ∀ t : Fin grid0.N, _)

/-- The reference's term over the kernel's arguments. -/
abbrev REF (X : FVec Ideal S4x4096x2048 .f32) (G : FVec Ideal S2048 .f32) :
    FVec Ideal S16384x2048 .f32 := Cert.Reference5Ideal.Read.val_main_v13 (F := Ideal) X G

/-- The place `y` of the result's block at a point, at coordinates. -/
theorem emb_val (t : Fin cfg0.N) (y : S512x2048.Idx) :
    ((((cfg0.win 2).blk t).view.emb y) 0).val = t.val * 512 + (y 0).val
      ∧ ((((cfg0.win 2).blk t).view.emb y) 1).val = (y 1).val := by
  constructor <;> blk_simp [idx t]

/-- The rows a point reads. -/
theorem rd0 (c : Dev nD) (t : Fin cfg0.N) (y : S512x2048.Idx) (a : Fin 4) (b : Fin 4096) (d : Fin 2048)
    (h : t.val * 512 + (y 0).val = a.val * 4096 + b.val) (h' : (y 1).val = d.val) :
    iblk m c 0 t y = m ((c : Thread nD τ).loc main_arg0) (ix3 a b d) := by
  blk_simp [iblk]; entry_read; pointwise; blk_ext [idx t]

/-- The gain. -/
theorem rd1 (c : Dev nD) (t : Fin cfg0.N) (y : S1x2048.Idx) (d : Fin 2048) (h : (y 1).val = d.val) :
    iblk m c 1 t y = m ((c : Thread nD τ).loc main_arg1) (ix1 d) := by
  blk_simp [iblk]; entry_read; pointwise; blk_ext [idx t]

/-- What a point stores at a place of its block is the reference's term at the place's array index. -/
theorem point (c : Dev nD) (t : Fin cfg0.N) (y) : k0_pay1 (iblk m c 0 t) (iblk m c 1 t) y
    = REF (m ((c : Thread nD τ).loc main_arg0)) (m ((c : Thread nD τ).loc main_arg1))
        (((cfg0.win 2).blk t).view.emb y) := by
  obtain ⟨h0, h1⟩ := emb_val t y
  pointwise [k0_pay1, REF, Cert.Reference5Ideal.Read.val_main_v13, Cert.Reference5Ideal.Read.val_main_v12, Cert.Reference5Ideal.Read.val_main_v11, Cert.Reference5Ideal.Read.val_main_v10, Cert.Reference5Ideal.Read.val_main_v9, Cert.Reference5Ideal.Read.val_main_v8, Cert.Reference5Ideal.Read.val_main_v7, Cert.Reference5Ideal.Read.val_main_v6, Cert.Reference5Ideal.Read.val_main_v5, Cert.Reference5Ideal.Read.val_main_v4, Cert.Reference5Ideal.Read.val_main_v3, Cert.Reference5Ideal.Read.val_main_v2, Cert.Reference5Ideal.Read.val_main_v1, Cert.Reference5Ideal.Read.val_main_v0, Cert.Reference5Ideal.Read.val_main_cst, Cert.Reference5Ideal.Read.val_main_cst_0, Cert.Reference5Ideal.Read.val_main_cst_1]
  have h0' : t.val * 512 + (y 0).val
      = (((cfg0.win 2).blk t).view.emb y 0).val / 4096 * 4096 + (((cfg0.win 2).blk t).view.emb y 0).val % 4096 := by omega
  have hy : (y 0).val < 512 := (y 0).isLt
  have ht := (idx t).2.2.2
  have hs := fun (a : Fin 4) (b : Fin 4096) (h : t.val * 512 + (y 0).val = a.val * 4096 + b.val) =>
    Finset.sum_congr (s₁ := Finset.univ) rfl fun (k : Fin 2048) _ =>
      congrArg (fun z : EReal => z * z) (rd0 m c t (ix2 (y 0) k) a b k h rfl)
  refine congrArg₂ (· * ·) (congrArg₂ (· * ·) (rd0 m c t y _ _ _ h0' h1.symm)
    (congrArg (fun z => Ideal.rsqrt (Ideal.div z (Ideal.ofBits FTy.f32 1157627904#32) + Ideal.ofBits FTy.f32 897988541#32))
      ?_)) (rd1 m c t (ix2 0 (y 1)) _ h1.symm)
  exact hs _ _ h0'

/-- The result array after the run. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel5Ideal.RefValue

namespace Cert.Proof.FinalNorm

/-- The frames of the three programs. -/
theorem frame_P : Cert.quiescent_Kernel5 := fun m ρ _ => Cert.Kernel5.Gen.frame m ρ
theorem frame_PI : Cert.quiescent_Kernel5Ideal := fun m ρ _ => Cert.Kernel5Ideal.Gen.frame m ρ
theorem frame_RI : Cert.quiescent_Reference5Ideal := fun m ρ _ =>
  (θ_run Cert.Reference5Ideal.defs _ _).mono (fun r h => ⟨fun c => (h c).2,
      Idealize.ShloMosaic.sem_eq_zero_of_no_sems (by decide) r.2⟩)
    (Cert.Reference5Ideal.Value.run (F := Ideal) m ρ)

/-- No operation of the kernel was rewritten. -/
theorem preserves : Cert.preserves_Kernel5_Kernel5Ideal := trivial

/-- On arguments that agree the two programs leave the same result. -/
theorem algebraic : Cert.algebraic_Kernel5Ideal_Reference5Ideal := by
  intro m ρ m' ρ' _ hagree
  refine ⟨fun c => Cert.Kernel5Ideal.RefValue.REF (m ((c.tc : Thread _ _).loc Cert.Kernel5Ideal.main_arg0))
    (m ((c.tc : Thread _ _).loc Cert.Kernel5Ideal.main_arg1)), ?_, ?_⟩
  · exact (θ_run Cert.Kernel5Ideal.defs _ _).mono
      (fun _ h c => ⟨(h c).1.trans (Cert.Kernel5Ideal.RefValue.final m c), (h c).2⟩)
      (Cert.Kernel5Ideal.Value.run_blocks (F := Ideal) m ρ)
  · refine (θ_run Cert.Reference5Ideal.defs _ _).mono (fun _ h c => ⟨(h c).1.trans ?_, (h c).2⟩)
      (Cert.Reference5Ideal.Value.run (F := Ideal) m' ρ')
    rw [(hagree c).1, (hagree c).2]
    rfl

end Cert.Proof.FinalNorm

end
-- ==== Proof.FnetChannel.lean ====
/- The Fourier mixing along the channels (Kernel6): what its result array holds after the run is the reference's pair of
   contractions with the cosine and sine tables, and the claims about the two programs. Hand-written, untrusted. -/
module

public import proofs.«01_k».proof.Defs
public import proofs.«01_k».proof.Proof.Gen.Kernel6.Frame
public import proofs.«01_k».proof.Proof.Gen.Kernel6Ideal.Value
public import proofs.«01_k».proof.Proof.Gen.Reference6Ideal.Read
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel6Ideal.RefValue

open Cert.Kernel6Ideal Cert.Kernel6Ideal.Gen

variable (m : (ℓ : Loc nD τ sig) → Buf (Elt Ideal) ℓ)

/-- The block index of every window at every grid point. -/
theorem idx : ∀ t : Fin cfg0.N, win0_0.index t = ![t.val / 4, 0, t.val % 4, 0] ∧ win0_1.index t = ![0, 0]
    ∧ win0_2.index t = ![0, t.val % 4, t.val / 4] ∧ t.val < 16 :=
  (by decide +kernel : ∀ t : Fin grid0.N, _)

/-- The reference's term over the kernel's arguments. -/
abbrev REF (X : FVec Ideal S4x4096x512 .f32) (T : FVec Ideal S128x256 .f32) :
    FVec Ideal S2x4096x2048 .bf16 := Cert.Reference6Ideal.Read.val_main_v12 (F := Ideal) X T

/-- The reference's term as one contraction of a row's group with a column of the tables. -/
theorem ref_at (X : FVec Ideal S4x4096x512 .f32) (T : FVec Ideal S128x256 .f32) (e : S2x4096x2048.Idx)
    (p : Fin 256) (a : Fin 4) (g : Fin 128 → Fin 512)
    (hp : p.val = (e 0).val * 128 + (e 2).val % 128) (ha : a.val = (e 2).val / 512)
    (hg : ∀ k, (g k).val = (e 2).val % 512 / 128 * 128 + k.val) :
    REF X T e = ∑ k : Fin 128, X (ix3 a (e 1) (g k)) * T (ix2 k p) := by
  have h0 : (e 0).val < 2 := (e 0).isLt
  have h2 : (e 2).val < 2048 := (e 2).isLt
  pointwise [REF, Cert.Reference6Ideal.Read.val_main_v12, Cert.Reference6Ideal.Read.val_main_v11,
    Cert.Reference6Ideal.Read.val_main_v10, Cert.Reference6Ideal.Read.val_main_v9,
    Cert.Reference6Ideal.Read.val_main_v8, Cert.Reference6Ideal.Read.val_main_v7,
    Cert.Reference6Ideal.Read.val_main_v6, Cert.Reference6Ideal.Read.val_main_v5,
    Cert.Reference6Ideal.Read.val_main_v4, Cert.Reference6Ideal.Read.val_main_v3,
    Cert.Reference6Ideal.Read.val_main_v2, Cert.Reference6Ideal.Read.val_main_v1,
    Cert.Reference6Ideal.Read.val_main_v0]
  split
  all_goals
    refine Finset.sum_congr rfl fun k _ => (mul_comm _ _).trans (congrArg₂ (· * ·) ?_ ?_)
    · blk_ext [hg k]
    · blk_ext

/-- The place `y` of the result's block at a point, at coordinates. -/
theorem emb_val (t : Fin cfg0.N) (y : S2x1024x512.Idx) :
    ((((cfg0.win 2).blk t).view.emb y) 0).val = (y 0).val
      ∧ ((((cfg0.win 2).blk t).view.emb y) 1).val = t.val % 4 * 1024 + (y 1).val
      ∧ ((((cfg0.win 2).blk t).view.emb y) 2).val = t.val / 4 * 512 + (y 2).val := by
  refine ⟨?_, ?_, ?_⟩ <;> blk_simp [idx t]

/-- The rows a point reads. -/
theorem rd0 (c : Dev nD) (t : Fin cfg0.N) (y : S1x4x1024x128.Idx) (a : Fin 4) (b : Fin 4096) (d : Fin 512)
    (ha : a.val = t.val / 4) (hb : b.val = t.val % 4 * 1024 + (y 2).val) (hd : d.val = (y 1).val * 128 + (y 3).val) :
    iblk m c 0 t y = m ((c : Thread nD τ).loc main_arg0) (ix3 a b d) := by
  blk_simp [iblk]; entry_read; pointwise; blk_ext [idx t]

/-- The tables. -/
theorem rd1 (c : Dev nD) (t : Fin cfg0.N) (y : S128x256.Idx) :
    iblk m c 1 t y = m ((c : Thread nD τ).loc main_arg1) y := by
  blk_simp [iblk]; entry_read; pointwise; blk_ext [idx t]

/-- One group's row against one column of the tables, as the body computes it. -/
theorem core (c : Dev nD) (t : Fin cfg0.N) (g : Fin 4) (r : Fin 1024) (p : Fin 256) (e : S2x4096x2048.Idx)
    (hp : p.val = (e 0).val * 128 + (e 2).val % 128) (h1 : (e 1).val = t.val % 4 * 1024 + r.val)
    (h2 : (e 2).val / 128 = t.val / 4 * 4 + g.val) :
    ∑ k : Fin 128, (show FVec Ideal S1x4x1024x128 .bf16 from iblk m c 0 t) (ix4 0 g r k)
        * (show FVec Ideal S128x256 .bf16 from iblk m c 1 t) (ix2 k p)
      = REF (m ((c : Thread nD τ).loc main_arg0)) (m ((c : Thread nD τ).loc main_arg1)) e := by
  have he : (e 2).val < 2048 := (e 2).isLt
  have hg : g.val < 4 := g.isLt
  rw [ref_at _ _ e p ⟨(e 2).val / 512, by omega⟩ (fun k => ⟨(e 2).val % 512 / 128 * 128 + k.val, by omega⟩) hp rfl
    (fun _ => rfl)]
  refine Finset.sum_congr rfl fun k _ => congrArg₂ (· * ·) (rd0 m c t (ix4 0 g r k) _ _ _ ?_ h1 ?_) (rd1 m c t _)
  · show (e 2).val / 512 = t.val / 4
    omega
  · show (e 2).val % 512 / 128 * 128 + k.val = g.val * 128 + k.val
    omega

/-- What a point stores at a place of its block is the reference's term at the place's array index. -/
theorem point (c : Dev nD) (t : Fin cfg0.N) (y : S2x1024x512.Idx) (e : S2x4096x2048.Idx)
    (h0 : (e 0).val = (y 0).val) (h1 : (e 1).val = t.val % 4 * 1024 + (y 1).val)
    (h2 : (e 2).val = t.val / 4 * 512 + (y 2).val) :
    out0_2 (iblk m c 0 t) (iblk m c 1 t) y
      = REF (m ((c : Thread nD τ).loc main_arg0)) (m ((c : Thread nD τ).loc main_arg1)) e := by
  have hy : (y 2).val < 512 := (y 2).isLt
  have hy0 : (y 0).val < 2 := (y 0).isLt
  refine Eq.trans ?_ (core m c t ⟨(y 2).val / 128, by omega⟩ (y 1) ⟨(y 0).val * 128 + (y 2).val % 128, by omega⟩ e
    (by show (y 0).val * 128 + (y 2).val % 128 = _; omega) h1 (by show _ = t.val / 4 * 4 + (y 2).val / 128; omega))
  canon_tiles x k
  all_goals
    open_payloads
    pointwise
    refine Finset.sum_congr rfl fun k _ => congrArg₂ (· * ·) ?_ ?_ <;> blk_ext

/-- The result array after the run. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  obtain ⟨h0, h1, h2⟩ := emb_val t y
  blk_simp
  rw [after0_2]
  exact point m c t y _ h0 h1 h2

end Cert.Kernel6Ideal.RefValue

namespace Cert.Proof.FnetChannel

/-- The frames of the three programs. -/
theorem frame_P : Cert.quiescent_Kernel6 := fun m ρ _ => Cert.Kernel6.Gen.frame m ρ
theorem frame_PI : Cert.quiescent_Kernel6Ideal := fun m ρ _ => Cert.Kernel6Ideal.Gen.frame m ρ
theorem frame_RI : Cert.quiescent_Reference6Ideal := fun m ρ _ =>
  (θ_run Cert.Reference6Ideal.defs _ _).mono (fun r h => ⟨fun c => (h c).2,
      Idealize.ShloMosaic.sem_eq_zero_of_no_sems (by decide) r.2⟩)
    (Cert.Reference6Ideal.Value.run (F := Ideal) m ρ)

/-- No operation of the kernel was rewritten. -/
theorem preserves : Cert.preserves_Kernel6_Kernel6Ideal := trivial

/-- On arguments that agree the two programs leave the same result. -/
theorem algebraic : Cert.algebraic_Kernel6Ideal_Reference6Ideal := by
  intro m ρ m' ρ' _ hagree
  refine ⟨fun c => Cert.Kernel6Ideal.RefValue.REF (m ((c.tc : Thread _ _).loc Cert.Kernel6Ideal.main_arg0))
    (m ((c.tc : Thread _ _).loc Cert.Kernel6Ideal.main_arg1)), ?_, ?_⟩
  · exact (θ_run Cert.Kernel6Ideal.defs _ _).mono
      (fun _ h c => ⟨(h c).1.trans (Cert.Kernel6Ideal.RefValue.final m c), (h c).2⟩)
      (Cert.Kernel6Ideal.Value.run_blocks (F := Ideal) m ρ)
  · refine (θ_run Cert.Reference6Ideal.defs _ _).mono (fun _ h c => ⟨(h c).1.trans ?_, (h c).2⟩)
      (Cert.Reference6Ideal.Value.run (F := Ideal) m' ρ')
    rw [Cert.Reference6Ideal.Read.val_main_v12_eq, (hagree c).1, (hagree c).2]

end Cert.Proof.FnetChannel

end
-- ==== Proof.FnetSequence.lean ====
/- The Fourier mixing along the positions (Kernel7): what its result array holds after the run is the reference's sum of
   two contractions over the positions, and the claims about the two programs. Hand-written, untrusted. -/
module

public import proofs.«01_k».proof.Defs
public import proofs.«01_k».proof.Proof.Gen.Kernel7.Frame
public import proofs.«01_k».proof.Proof.Gen.Kernel7Ideal.Value
public import proofs.«01_k».proof.Proof.Gen.Reference7Ideal.Read
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel7Ideal.RefValue

open Cert.Kernel7Ideal Cert.Kernel7Ideal.Gen

variable (m : (ℓ : Loc nD τ sig) → Buf (Elt Ideal) ℓ)

/-- The block index of every window at every grid point. -/
theorem idx : ∀ t : Fin cfg0.N, win0_0.index t = ![t.val / 16, t.val % 8] ∧ win0_1.index t = ![t.val % 8, t.val / 8 % 2]
    ∧ win0_2.index t = ![t.val / 16, t.val / 8 % 2] ∧ t.val < 64 :=
  (by decide +kernel : ∀ t : Fin grid0.N, _)

/-- The reference's term over the kernel's arguments. -/
abbrev REF (R : FVec Ideal S2x4096x2048 .bf16) (D : FVec Ideal S4096x8192 .f32) :
    FVec Ideal S4096x2048 .bf16 := Cert.Reference7Ideal.Read.val_main_v11 (F := Ideal) R D

/-- The zero the accumulator starts from. -/
theorem hzero (j) : k0_pay1 (F := Ideal) j = 0 := by pointwise [k0_pay1]

/-- One step of the accumulation. -/
theorem hpay (acc : Vec Ideal S1024x1024 .f32) (x0 : Vec Ideal S1024x1024 .bf16) (x1 : Vec Ideal S1024x1024 .bf16) (j) :
    k0_pay2 acc x0 x1 j = acc j + ∑ k : Fin 1024, x0 (ix2 (j 0) k) * x1 (ix2 k (j 1)) := by pointwise [k0_pay2]

/-- The reference's two contractions as one over both parts. -/
theorem ref_at (R : FVec Ideal S2x4096x2048 .bf16) (D : FVec Ideal S4096x8192 .f32) (e : S4096x2048.Idx) :
    REF R D e = ∑ l : Fin 8192, D (ix2 (e 0) l) * R (ix3 ⟨l.val / 4096, by omega⟩ ⟨l.val % 4096, by omega⟩ (e 1)) := by
  pointwise [REF, Cert.Reference7Ideal.Read.val_main_v11, Cert.Reference7Ideal.Read.val_main_v10,
    Cert.Reference7Ideal.Read.val_main_v9, Cert.Reference7Ideal.Read.val_main_v8, Cert.Reference7Ideal.Read.val_main_v7,
    Cert.Reference7Ideal.Read.val_main_v6, Cert.Reference7Ideal.Read.val_main_v5, Cert.Reference7Ideal.Read.val_main_v4,
    Cert.Reference7Ideal.Read.val_main_v3, Cert.Reference7Ideal.Read.val_main_v2, Cert.Reference7Ideal.Read.val_main_v1,
    Cert.Reference7Ideal.Read.val_main_v0]
  refine Eq.trans ?_ (Fin.sum_univ_add (a := 4096) (b := 4096) fun l : Fin 8192 =>
    (D (ix2 (e 0) l) * R (ix3 ⟨l.val / 4096, by omega⟩ ⟨l.val % 4096, by omega⟩ (e 1)) : EReal)).symm
  refine congrArg₂ (· + ·) (Finset.sum_congr rfl fun k _ => congrArg₂ (· * ·) ?_ ?_)
    (Finset.sum_congr rfl fun k _ => congrArg₂ (· * ·) ?_ ?_) <;> blk_ext [Fin.val_castAdd, Fin.val_natAdd]

/-- The place `y` of the result's block at a point, at coordinates. -/
theorem emb_val (t : Fin cfg0.N) (y : S1024x1024.Idx) :
    ((((cfg0.win 2).blk t).view.emb y) 0).val = t.val / 16 * 1024 + (y 0).val
      ∧ ((((cfg0.win 2).blk t).view.emb y) 1).val = t.val / 8 % 2 * 1024 + (y 1).val := by
  refine ⟨?_, ?_⟩ <;> blk_simp [idx t]

/-- The part of the tables a point reads. -/
theorem rd0 (c : Dev nD) (t : Fin cfg0.N) (y : S1024x1024.Idx) (a : Fin 4096) (b : Fin 8192)
    (ha : a.val = t.val / 16 * 1024 + (y 0).val) (hb : b.val = t.val % 8 * 1024 + (y 1).val) :
    iblk m c 0 t y = m ((c : Thread nD τ).loc main_arg1) (ix2 a b) := by
  blk_simp [iblk]; entry_read; pointwise; blk_ext [idx t]

/-- The part of the channel transforms a point reads. -/
theorem rd1 (c : Dev nD) (t : Fin cfg0.N) (y : S1024x1024.Idx) (p : Fin 2) (q : Fin 4096) (d : Fin 2048)
    (hp : p.val * 4096 + q.val = t.val % 8 * 1024 + (y 0).val) (hd : d.val = t.val / 8 % 2 * 1024 + (y 1).val) :
    iblk m c 1 t y = m ((c : Thread nD τ).loc main_arg0) (ix3 p q d) := by
  blk_simp [iblk]; entry_read; pointwise; blk_ext [idx t]

/-- What a point adds to the accumulator. -/
abbrev part (c : Dev nD) (t : Fin cfg0.N) (j : S1024x1024.Idx) : EReal :=
  ∑ k : Fin 1024, (show FVec Ideal S1024x1024 .bf16 from iblk m c 0 t) (ix2 (j 0) k)
    * (show FVec Ideal S1024x1024 .bf16 from iblk m c 1 t) (ix2 k (j 1))

/-- What a point that writes back leaves in the result's buffer is what it leaves in the accumulator. -/
theorem out_eq_acc (c : Dev nD) (t : Fin cfg0.N) (h : t.val % 8 = 7) (j : S1024x1024.Idx) :
    ((outsAt0 m c t.val t.isLt).1 j : EReal) = (outsAt0 m c t.val t.isLt).2 j := by
  rw [outsAt0_C m c t (by omega) h]
  frame_out
  pointwise [k0_pay3]

/-- The accumulator's first step in a run. -/
theorem acc_first (c : Dev nD) (t : Fin cfg0.N) (h : t.val % 8 = 0) (j : S1024x1024.Idx) :
    ((outsAt0 m c t.val t.isLt).2 j : EReal) = 0 + part m c t j := by
  rw [outsAt0_A m c t h (by omega)]
  frame_out
  rw [hpay, hzero]

/-- The accumulator's later steps in a run. -/
theorem acc_step (c : Dev nD) (t : Fin cfg0.N) (h : ¬ t.val % 8 = 0) (j : S1024x1024.Idx) :
    ((outsAt0 m c t.val t.isLt).2 j : EReal)
      = (outsAt0 m c (t.val - 1) (Nat.lt_of_le_of_lt (Nat.sub_le _ _) t.isLt)).2 j + part m c t j := by
  by_cases h1 : t.val % 8 = 7
  · rw [outsAt0_C m c t h h1]
    frame_out
    rw [hpay, Idealize.ShloMosaic.read_unread_whole]
  · rw [outsAt0_B m c t h h1]
    frame_out
    rw [hpay, Idealize.ShloMosaic.read_unread_whole]

/-- The result array after the run. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  obtain ⟨h0, h1⟩ := emb_val t y
  have h7 := (flush0_2 t).mp hf
  blk_simp
  rw [after0_2]
  refine (out_eq_acc m c t h7 y).trans ?_
  rw [Pipeline.eq_sum_fin_of_reset_step_apply_of_flush (fun n h => (outsAt0 m c n h).2) 8 (fun _ => 0)
    (fun p j => part m c p j) (fun t h j => acc_first m c t h j) (fun t h j => acc_step m c t h j) t h7 _, zero_add, ref_at]
  refine Fin.sum_mul_add_congr fun s k hl => ?_
  have hs : s.val < 8 := s.isLt
  have hk : k.val < 1024 := k.isLt
  refine congrArg₂ (· * ·) (rd0 m c _ _ _ _ ?_ ?_) (rd1 m c _ _ _ _ _ ?_ ?_)
  · refine h0.trans ?_
    show _ = (8 * (t.val / 8) + s.val) / 16 * 1024 + (y 0).val
    omega
  · show s.val * 1024 + k.val = (8 * (t.val / 8) + s.val) % 8 * 1024 + k.val
    omega
  · show (s.val * 1024 + k.val) / 4096 * 4096 + (s.val * 1024 + k.val) % 4096 = (8 * (t.val / 8) + s.val) % 8 * 1024 + k.val
    omega
  · refine h1.trans ?_
    show _ = (8 * (t.val / 8) + s.val) / 8 % 2 * 1024 + (y 1).val
    omega

end Cert.Kernel7Ideal.RefValue

namespace Cert.Proof.FnetSequence

/-- The frames of the three programs. -/
theorem frame_P : Cert.quiescent_Kernel7 := fun m ρ _ => Cert.Kernel7.Gen.frame m ρ
theorem frame_PI : Cert.quiescent_Kernel7Ideal := fun m ρ _ => Cert.Kernel7Ideal.Gen.frame m ρ
theorem frame_RI : Cert.quiescent_Reference7Ideal := fun m ρ _ =>
  (θ_run Cert.Reference7Ideal.defs _ _).mono (fun r h => ⟨fun c => (h c).2,
      Idealize.ShloMosaic.sem_eq_zero_of_no_sems (by decide) r.2⟩)
    (Cert.Reference7Ideal.Value.run (F := Ideal) m ρ)

/-- No operation of the kernel was rewritten. -/
theorem preserves : Cert.preserves_Kernel7_Kernel7Ideal := trivial

/-- On arguments that agree the two programs leave the same result. -/
theorem algebraic : Cert.algebraic_Kernel7Ideal_Reference7Ideal := by
  intro m ρ m' ρ' _ hagree
  refine ⟨fun c => Cert.Kernel7Ideal.RefValue.REF (m ((c.tc : Thread _ _).loc Cert.Kernel7Ideal.main_arg0))
    (m ((c.tc : Thread _ _).loc Cert.Kernel7Ideal.main_arg1)), ?_, ?_⟩
  · exact (θ_run Cert.Kernel7Ideal.defs _ _).mono
      (fun _ h c => ⟨(h c).1.trans (Cert.Kernel7Ideal.RefValue.final m c), (h c).2⟩)
      (Cert.Kernel7Ideal.Value.run_blocks (F := Ideal) m ρ)
  · refine (θ_run Cert.Reference7Ideal.defs _ _).mono (fun _ h c => ⟨(h c).1.trans ?_, (h c).2⟩)
      (Cert.Reference7Ideal.Value.run (F := Ideal) m' ρ')
    rw [Cert.Reference7Ideal.Read.val_main_v11_eq, (hagree c).1, (hagree c).2]

end Cert.Proof.FnetSequence

end
-- ==== Proof.Strip.lean ====
/- The strips of relative biases (Kernel8): what its result array holds after the run is the reference's table of
   biases by distance, and the claims about the two programs. Hand-written, untrusted. -/
module

public import proofs.«01_k».proof.Defs
public import proofs.«01_k».proof.Proof.DiffReads
public import proofs.«01_k».proof.Proof.Gen.Kernel8.Frame
public import proofs.«01_k».proof.Proof.Gen.Kernel8Ideal.Value
public import proofs.«01_k».proof.Proof.Gen.Reference8Ideal.Read
public import Idealize.ShloMosaic.Lib.Pipeline.ValueKit
public import Idealize.ShloMosaic.Lib.Pointwise
public import Idealize.ShloMosaic.Lib.KernelVsHost
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel8Ideal.RefValue

open Cert.Kernel8Ideal Cert.Kernel8Ideal.Gen

variable (m : (ℓ : Loc nD τ sig) → Buf (Elt Ideal) ℓ)

open Cert.KernelIdeal.RefValue (bkt bkt0 far gather_rows_apply)

/-- The block index of every window at every grid point. -/
theorem idx : ∀ t : Fin cfg0.N, win0_0.index t = ![t.val, 0, 0] ∧ win0_1.index t = ![t.val, 0, 0] ∧ t.val < 4 :=
  (by decide +kernel : ∀ t : Fin grid0.N, _)

/-- The reference's term over the kernel's argument. -/
abbrev REF (X : FVec Ideal S32x16 .f32) : FVec Ideal S4x128x8064 .f32 :=
  Cert.Reference8Ideal.Read.val_main_v41 (F := Ideal) X

/-- The start index of a gather of rows at the result place `y`. -/
abbrev rowIdx1 {R C : Nat} (y : (⟨2, ![R, C]⟩ : Shape).Idx) : (⟨2, ![R, 1]⟩ : Shape).Idx :=
  fun a => match a with | ⟨0, _⟩ => ⟨(y 0).val, (y 0).isLt⟩ | ⟨1, _⟩ => ⟨0, Nat.one_pos⟩

/-- A gather of whole rows of a table by a list of rows, read at an index. -/
theorem gather_list_apply {α : Type} {N C R w : Nat} (hN : 0 < N)
    (d : GatherDims ⟨2, ![N, C]⟩ ⟨2, ![R, 1]⟩ ⟨2, ![R, C]⟩)
    (h0 : d.offsetDims = [1]) (h1 : d.collapsedSliceDims = [0]) (h2 : d.operandBatchingDims = [])
    (h3 : d.startIndicesBatchingDims = []) (h4 : d.startIndexMap = [0]) (h5 : d.indexVectorDim = 1)
    (h6 : d.sliceSizes = ![1, C])
    (x : (⟨2, ![N, C]⟩ : Shape).Idx → α) (idx : IVec ⟨2, ![R, 1]⟩ w) (y : (⟨2, ![R, C]⟩ : Shape).Idx) :
    Host.gather d x idx y
      = x (ix2 ⟨min (idx (rowIdx1 y)).toInt.toNat (N - 1), by omega⟩ ⟨(y 1).val, (y 1).isLt⟩) := by
  obtain ⟨od, cd, bd, sb, sm, iv, ss, wf⟩ := d
  subst h0 h1 h2 h3 h4 h5 h6
  unfold Host.gather
  congr 1
  funext a
  refine Fin.ext ?_
  generalize hd : (GatherDims.mk (si := ⟨2, ![R, 1]⟩) (s := ⟨2, ![N, C]⟩) (t := ⟨2, ![R, C]⟩) [1] [0] [] [] [0] 1 ![1, C] wf) = d
  show d.start y idx a + d.batchCoord y a + d.offCoord y a = _
  have h01 : a = 0 ∨ a = 1 := by
    match a with
    | ⟨0, _⟩ => exact Or.inl rfl
    | ⟨1, _⟩ => exact Or.inr rfl
  rcases h01 with rfl | rfl
  · subst hd
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ [0] from List.mem_singleton.mpr rfl)]
    have hsi : (GatherDims.mk (si := ⟨2, ![R, 1]⟩) (s := ⟨2, ![N, C]⟩) (t := ⟨2, ![R, C]⟩) [1] [0] [] [] [0] 1 ![1, C] wf).siIdx y ⟨List.idxOf (0 : Fin 2) [0],
        List.idxOf_lt_length_iff.2 (List.mem_singleton.mpr rfl)⟩ = rowIdx1 y := by
      funext b; refine Fin.ext ?_
      match b with
      | ⟨0, _⟩ => rfl
      | ⟨1, _⟩ => rfl
    rw [hsi]
    rfl
  · subst hd
    rw [GatherDims.batchCoord_eq_zero _ _ _ List.not_mem_nil]
    unfold GatherDims.start
    rw [dif_neg (show ¬(1 : Fin 2) ∈ ([0] : List (Fin 2)) by decide)]
    unfold GatherDims.offCoord
    rw [dif_pos ((GatherDims.mem_sKept _ _).mpr ⟨(show ¬(1 : Fin 2) ∈ ([0] : List (Fin 2)) by decide), List.not_mem_nil⟩)]
    simp only [Nat.zero_add, Nat.add_zero]
    rfl

section RefGather
open Cert.Reference8Ideal.Read

theorem ref_rel (i : Cert.Reference8Ideal.S128x8064.Idx) : val_main_v8 (F := Ideal) i
    = IntOp.subi (IntOp.subi (BitVec.ofNat 32 (i 1).val) (BitVec.ofNat 32 (i 0).val)) 3968#32 := by
  rw [val_main_v8_apply, val_main_v6_apply, val_main_v4_apply, val_main_v1_apply, val_main_v5_apply, val_main_v3_apply,
    val_main_v7_apply, val_main_c_apply]
  rfl

theorem ref_far (i : Cert.Reference8Ideal.S128x8064.Idx) :
    val_main_v25 (F := Ideal) i = far (val_main_v8 (F := Ideal) i) := by
  rw [val_main_v25_apply, val_main_v23_apply, val_main_v21_apply, val_main_v20_apply, val_main_v18_apply,
    val_main_v16_apply, val_main_v15_apply, val_main_v13_apply, val_main_v12_apply, val_main_v10_apply,
    val_main_v22_apply, val_main_v24_apply, val_main_v19_apply, val_main_v17_apply, val_main_v14_apply, val_main_v11_apply,
    val_main_c_3_apply, val_main_c_4_apply, val_main_cst_2_apply, val_main_cst_1_apply, val_main_cst_apply,
    val_main_c_0_apply]
  rfl

theorem ref_bkt0 (i : Cert.Reference8Ideal.S128x8064.Idx) :
    val_main_v33 (F := Ideal) i = bkt0 (val_main_v8 (F := Ideal) i) := by
  rw [val_main_v33_apply, val_main_v32_apply, val_main_v31_apply, val_main_v30_apply, val_main_v28_apply,
    val_main_v27_apply, ref_far, val_main_v10_apply, val_main_v29_apply, val_main_v26_apply,
    val_main_call0_v0_apply, val_main_call0_v1_apply, val_main_c_5_apply, val_main_c_6_apply, val_main_c_7_apply,
    val_main_c_8_apply]
  rfl

/-- The reference at an index: the table's entry at the bucket of the distance. -/
theorem ref_at (X : FVec Ideal S32x16 .f32) (e : S4x128x8064.Idx) : REF X e
    = X (ix2 (bkt (IntOp.subi (IntOp.subi (BitVec.ofNat 32 (e 2).val) (BitVec.ofNat 32 (e 1).val)) 3968#32))
        ⟨12 + (e 0).val, by have : (e 0).val < 4 := (e 0).isLt; omega⟩) := by
  unfold REF
  rw [val_main_v41_apply]
  unfold val_main_v40
  rw [gather_rows_apply (by norm_num) _ rfl rfl rfl rfl rfl rfl rfl]
  simp only [val_main_v39_apply, val_main_v38_apply, val_main_v37_apply, val_main_v36_apply, val_main_v35_apply,
    val_main_v34_apply, ref_bkt0, ref_rel, val_main_c_9_apply, val_main_c_10_apply, val_main_v9_apply]
  congr 1
  funext a
  match a with
  | ⟨0, _⟩ => rfl
  | ⟨1, _⟩ => rfl
end RefGather

/-- A reference at its own type reads and writes its contents as they are. -/
theorem tref_v21 (v : IVec S8191 32) (h₁ h₂ h₃) : (StableHlo.TRef.of main_v21 h₁ h₂ h₃ : StableHlo.TRef sig ⟨S8191, .i32⟩).toBuf (Val := Elt Ideal) v = v := rfl
theorem tref_v24 (v : IVec S8191 32) (h₁ h₂ h₃) : (StableHlo.TRef.of main_v24 h₁ h₂ h₃ : StableHlo.TRef sig ⟨S8191, .i32⟩).toBuf (Val := Elt Ideal) v = v := rfl
theorem tref_v20 (v : IVec S8191 1) (h₁ h₂ h₃) : (StableHlo.TRef.of main_v20 h₁ h₂ h₃ : StableHlo.TRef sig ⟨S8191, .i1⟩).ofBuf (Val := Elt Ideal) v = v := rfl
theorem tref_v23 (v : IVec S8191 1) (h₁ h₂ h₃) : (StableHlo.TRef.of main_v23 h₁ h₂ h₃ : StableHlo.TRef sig ⟨S8191, .i1⟩).ofBuf (Val := Elt Ideal) v = v := rfl
theorem tref_v3 (v : IVec S8191 32) (h₁ h₂ h₃) : (StableHlo.TRef.of main_v3 h₁ h₂ h₃ : StableHlo.TRef sig ⟨S8191, .i32⟩).ofBuf (Val := Elt Ideal) v = v := rfl
theorem tref_v18 (v : IVec S8191 32) (h₁ h₂ h₃) : (StableHlo.TRef.of main_v18 h₁ h₂ h₃ : StableHlo.TRef sig ⟨S8191, .i32⟩).ofBuf (Val := Elt Ideal) v = v := rfl
theorem tref_c6 (v : IVec S_ 32) (h₁ h₂ h₃) : (StableHlo.TRef.of main_c_6 h₁ h₂ h₃ : StableHlo.TRef sig ⟨S_, .i32⟩).ofBuf (Val := Elt Ideal) v = v := rfl
theorem tref_c7 (v : IVec S_ 32) (h₁ h₂ h₃) : (StableHlo.TRef.of main_c_7 h₁ h₂ h₃ : StableHlo.TRef sig ⟨S_, .i32⟩).ofBuf (Val := Elt Ideal) v = v := rfl
theorem tref_c11 (v : IVec S_ 32) (h₁ h₂ h₃) : (StableHlo.TRef.of main_c_11 h₁ h₂ h₃ : StableHlo.TRef sig ⟨S_, .i32⟩).ofBuf (Val := Elt Ideal) v = v := rfl
theorem tref_v35 (v : FVec Ideal S4x8191 .f32) (h₁ h₂ h₃) : (StableHlo.TRef.of main_v35 h₁ h₂ h₃ : StableHlo.TRef sig ⟨S4x8191, .f32⟩).ofBuf (Val := Elt Ideal) v = v := rfl
theorem tref_v36 (v : FVec Ideal S4x8192 .f32) (h₁ h₂ h₃) : (StableHlo.TRef.of main_v36 h₁ h₂ h₃ : StableHlo.TRef sig ⟨S4x8192, .f32⟩).toBuf (Val := Elt Ideal) v = v := rfl

/-- The biases by distance, one row to a head, as the call takes them. -/
theorem V_row (c : Dev nD) (i : S4x1x8192.Idx) (hi : (i 2).val < 8191) :
    V m c main_v37 i = m ((c : Thread nD τ).loc main_arg0)
      (ix2 (bkt (IntOp.addi 4294963201#32 (BitVec.ofNat 32 (i 2).val)))
        ⟨12 + (i 0).val, by have : (i 0).val < 4 := (i 0).isLt; omega⟩) := by
  unfold V
  simp only [List.flatten_cons, List.flatten_nil, List.append_nil]
  simp only [hostOps0, hostOps0_1, hostOps0_2, hostOps0_3, hostOps0_4, hostOps0_5, hostOps0_6, List.cons_append, List.nil_append]
  entry_read
  simp only [StableHlo.TRef.ofBuf_toBuf, tref_v21, tref_v24, tref_v20, tref_v23, tref_v3, tref_v18, tref_c6, tref_c7,
    tref_c11, tref_v35, tref_v36]
  have h0 : (i 0).val < 4 := (i 0).isLt
  have h1 : (i 1).val < 1 := (i 1).isLt
  refine (shapeCast_apply _ shapeCasts_S4x8192_S4x1x8192 i (ix2 (i 0) (i 2)) ?_).trans ?_
  · rewrite [Shape.rowMajor_val_two, Shape.rowMajor_val_three]
    show (i 0).val * 8192 + (i 2).val = ((i 0).val * 1 + (i 1).val) * 8192 + (i 2).val
    omega
  refine (pad_apply_of_inside _ _ _ _ _ _ _ _ (ix2 (i 0) ⟨(i 2).val, hi⟩) (fun a => match a with
    | ⟨0, _⟩ => by show (i 0).val = 0 + (i 0).val * (0 + 1); omega
    | ⟨1, _⟩ => by show (i 2).val = 0 + (i 2).val * (0 + 1); omega)).trans ?_
  pointwise
  rw [gather_list_apply (by norm_num) _ rfl rfl rfl rfl rfl rfl rfl]
  pointwise
  rfl

/-- The rotation of the eight rows by one more place to a row. -/
theorem rotate_at (x : FVec Ideal S8x8192 .f32) (n : ℕ) (h) (r : Fin 8) (j : Fin 8192) :
    dynamicRotate (1 : Fin 2) (BitVec.ofNat 32 n) (some (1, 0)) x h (ix2 r j)
      = x (ix2 r ⟨(j.val + 8192 - (n % 2 ^ 32 + 1 * r.val) % 8192) % 8192, Nat.mod_lt _ (by norm_num)⟩) := by
  unfold dynamicRotate
  refine congrArg x (funext fun b => ?_)
  match b with
  | ⟨0, _⟩ => rfl
  | ⟨1, _⟩ => rfl

/-- The place `y` of the result's block at a point, at coordinates. -/
theorem emb_val (t : Fin cfg0.N) (y : S1x128x8064.Idx) :
    ((((cfg0.win 1).blk t).view.emb y) 0).val = t.val
      ∧ ((((cfg0.win 1).blk t).view.emb y) 1).val = (y 1).val
      ∧ ((((cfg0.win 1).blk t).view.emb y) 2).val = (y 2).val := by
  have : (y 0).val < 1 := (y 0).isLt
  refine ⟨?_, ?_, ?_⟩ <;> blk_simp [idx t]

/-- The row a point reads. -/
theorem rd0 (c : Dev nD) (t : Fin cfg0.N) (y : S1x1x8192.Idx) (b : Fin 4) (hb : b.val = t.val) :
    iblk m c 0 t y = V m c main_v37 (ix3 b 0 (y 2)) := by
  have : (y 0).val < 1 := (y 0).isLt
  blk_simp [iblk]; blk_ext [idx t]

/-- What a point stores at a place of its block, read off its row. -/
theorem stored (x : Vec Ideal S1x1x8192 .f32) (y : S1x128x8064.Idx) (p : Fin 8192) (hp : p.val = (y 2).val + 127 - (y 1).val) :
    out0_1 x y = x (ix3 0 0 p) := by
  have hy : (y 1).val < 128 := (y 1).isLt
  have hy0 : (y 2).val < 8064 := (y 2).isLt
  canon_tiles z k
  all_goals
    open_payloads
    pointwise [rotate_at]
    blk_ext

/-- The result array after the run. -/
theorem final (c : Dev nD) : (dats m 0 c).arrAt 1 (cfgs 0).N = REF (m ((c : Thread nD τ).loc main_arg0)) := by
  refine (dats m 0 c).arrAt_eq_of_covers 1 _ (by decide +kernel) fun t _ y => ?_
  obtain ⟨h0, h1, h2⟩ := emb_val t y
  have hy : (y 1).val < 128 := (y 1).isLt
  have hy0 : (y 2).val < 8064 := (y 2).isLt
  blk_simp
  rw [after0_1]
  refine (stored _ y ⟨(y 2).val + 127 - (y 1).val, by omega⟩ rfl).trans ?_
  rw [rd0 m c t _ ⟨t.val, (idx t).2.2⟩ rfl, V_row m c _ (by show (y 2).val + 127 - (y 1).val < 8191; omega), ref_at]
  refine congrArg (m ((c : Thread nD τ).loc main_arg0)) ?_
  refine congrArg₂ ix2 (congrArg bkt ?_) (Fin.ext ?_)
  · rw [h1, h2]
    refine BitVec.eq_of_toNat_eq ?_
    simp only [IntOp.addi, IntOp.subi, BitVec.toNat_sub, BitVec.toNat_add, BitVec.toNat_ofNat]
    show (4294963201 % 2 ^ 32 + ((y 2).val + 127 - (y 1).val) % 2 ^ 32) % 2 ^ 32 = _
    omega
  · show 12 + t.val = 12 + _
    rw [h0]

end Cert.Kernel8Ideal.RefValue

namespace Cert.Proof.Strip

/-- The frames of the three programs. -/
theorem frame_P : Cert.quiescent_Kernel8 := fun m ρ _ => Cert.Kernel8.Gen.frame m ρ
theorem frame_PI : Cert.quiescent_Kernel8Ideal := fun m ρ _ => Cert.Kernel8Ideal.Gen.frame m ρ
theorem frame_RI : Cert.quiescent_Reference8Ideal := fun m ρ _ =>
  (θ_run Cert.Reference8Ideal.defs _ _).mono (fun r h => ⟨fun c => (h c).2,
      Idealize.ShloMosaic.sem_eq_zero_of_no_sems (by decide) r.2⟩)
    (Cert.Reference8Ideal.Value.run (F := Ideal) m ρ)

/-- No operation of the kernel was rewritten. -/
theorem preserves : Cert.preserves_Kernel8_Kernel8Ideal := trivial

/-- On arguments that agree the two programs leave the same result. -/
theorem algebraic : Cert.algebraic_Kernel8Ideal_Reference8Ideal := by
  intro m ρ m' ρ' _ hagree
  refine ⟨fun c => Cert.Kernel8Ideal.RefValue.REF (m ((c.tc : Thread _ _).loc Cert.Kernel8Ideal.main_arg0)), ?_, ?_⟩
  · exact (θ_run Cert.Kernel8Ideal.defs _ _).mono
      (fun _ h c => ⟨(h c).1.trans (Cert.Kernel8Ideal.RefValue.final m c), (h c).2⟩)
      (Cert.Kernel8Ideal.Value.run_blocks (F := Ideal) m ρ)
  · refine (θ_run Cert.Reference8Ideal.defs _ _).mono (fun _ h c => ⟨(h c).1.trans ?_, (h c).2⟩)
      (Cert.Reference8Ideal.Value.run (F := Ideal) m' ρ')
    rw [Cert.Reference8Ideal.Read.val_main_v41_eq, hagree c]

end Cert.Proof.Strip

end
-- ==== Proof.lean ====
module

public import proofs.«01_k».proof.Defs
public import proofs.«01_k».proof.Proof.Gen.Pre_finite_values
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Reference2Ideal.Run
public import proofs.«01_k».proof.Proof.Gen.Reference2Ideal.Read
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.DiffAttn
public import proofs.«01_k».proof.Proof.InProj
public import proofs.«01_k».proof.Proof.Merge
public import proofs.«01_k».proof.Proof.WoResidual
public import proofs.«01_k».proof.Proof.FinalNorm
public import proofs.«01_k».proof.Proof.FnetChannel
public import proofs.«01_k».proof.Proof.FnetSequence
public import proofs.«01_k».proof.Proof.Strip
public import Idealize.ShloMosaic.Adequacy
public import Idealize.ShloMosaic.Init

@[expose] public section

noncomputable section

namespace Cert.Proof

open Idealize.ShloMosaic Idealize.SL.Sem Cert.Kernel

/-- Every claim of the certificate, each from the module that proves it. -/
theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Pre_finite_values.Gen.facts,
    DiffAttn.frame_P, DiffAttn.frame_PI, DiffAttn.frame_PI_pre, DiffAttn.frame_RI, DiffAttn.frame_RI_pre, InProj.frame_P, InProj.frame_PI, InProj.frame_RI, Merge.frame_P, Merge.frame_PI, Merge.frame_RI, WoResidual.frame_P, WoResidual.frame_PI, WoResidual.frame_RI, FinalNorm.frame_P, FinalNorm.frame_PI, FinalNorm.frame_RI, FnetChannel.frame_P, FnetChannel.frame_PI, FnetChannel.frame_RI, FnetSequence.frame_P, FnetSequence.frame_PI, FnetSequence.frame_RI, Strip.frame_P, Strip.frame_PI, Strip.frame_RI,
    DiffAttn.preserves, DiffAttn.algebraic, InProj.preserves, InProj.algebraic, Merge.preserves, Merge.algebraic, WoResidual.preserves, WoResidual.algebraic, FinalNorm.preserves, FinalNorm.algebraic, FnetChannel.preserves, FnetChannel.algebraic, FnetSequence.preserves, FnetSequence.algebraic, Strip.preserves, Strip.algebraic⟩

end Cert.Proof

end
